-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x68x2 : Shape := ⟨3, ![16384, 68, 2]⟩
abbrev S16384x67 : Shape := ⟨2, ![16384, 67]⟩
abbrev S128x128x68x2 : Shape := ⟨4, ![128, 128, 68, 2]⟩
abbrev S68x128x2x128 : Shape := ⟨4, ![68, 128, 2, 128]⟩
abbrev S67x16384 : Shape := ⟨2, ![67, 16384]⟩
abbrev S32x16 : Shape := ⟨2, ![32, 16]⟩
abbrev S68x1x2x128 : Shape := ⟨4, ![68, 1, 2, 128]⟩
abbrev S67x128 : Shape := ⟨2, ![67, 128]⟩
abbrev S16 : Shape := ⟨1, ![16]⟩
abbrev S_ : Shape := ⟨0, ![]⟩
abbrev S1x1x1x16 : Shape := ⟨4, ![1, 1, 1, 16]⟩
abbrev S1x16 : Shape := ⟨2, ![1, 16]⟩
abbrev S1x128 : Shape := ⟨2, ![1, 128]⟩
abbrev S68x16x2x128 : Shape := ⟨4, ![68, 16, 2, 128]⟩
abbrev S67x2048 : Shape := ⟨2, ![67, 2048]⟩
abbrev S68x1x1x128 : Shape := ⟨4, ![68, 1, 1, 128]⟩
abbrev S68x128 : Shape := ⟨2, ![68, 128]⟩
abbrev S128 : Shape := ⟨1, ![128]⟩

abbrev nBuf : Table → Nat
  | .hbm => 14
  | .local .tc .vmem => 5
  | .local .scVector .vmem => 5
  | _ => 0

abbrev bufTy : (tb : Table) → Fin (nBuf tb) → BufTy
  | .hbm, ⟨0, _⟩ => ⟨S16384x68x2, .f32⟩
  | .hbm, ⟨1, _⟩ => ⟨S16384x67, .f32⟩
  | .hbm, ⟨2, _⟩ => ⟨S128x128x68x2, .f32⟩
  | .hbm, ⟨3, _⟩ => ⟨S68x128x2x128, .f32⟩
  | .hbm, ⟨4, _⟩ => ⟨S67x16384, .f32⟩
  | .hbm, ⟨5, _⟩ => ⟨S32x16, .f32⟩
  | .hbm, ⟨6, _⟩ => ⟨S1x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local .tc .vmem, ⟨0, _⟩ => ⟨S68x16x2x128, .f32⟩
  | .local .tc .vmem, ⟨1, _⟩ => ⟨S68x16x2x128, .f32⟩
  | .local .tc .vmem, ⟨2, _⟩ => ⟨S67x2048, .f32⟩
  | .local .tc .vmem, ⟨3, _⟩ => ⟨S67x2048, .f32⟩
  | .local .tc .vmem, ⟨4, _⟩ => ⟨S1x128, .f32⟩
  | .local .scVector .vmem, ⟨0, _⟩ => ⟨S68x1x2x128, .f32⟩
  | .local .scVector .vmem, ⟨1, _⟩ => ⟨S68x1x2x128, .f32⟩
  | .local .scVector .vmem, ⟨2, _⟩ => ⟨S67x128, .f32⟩
  | .local .scVector .vmem, ⟨3, _⟩ => ⟨S67x128, .f32⟩
  | .local .scVector .vmem, ⟨4, _⟩ => ⟨S16, .f32⟩
  | _, _ => ⟨S16384x68x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c0_i32_1 : BitVec 32 := 0#32
  let c0_i32_2 : BitVec 32 := 0#32
  ![0, v3.toNat, 0, 0]
def k0_off2 (i : grid0.Coords) (c0_i32_6 : BitVec 32) : Fin 2 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v6 : BitVec 32 := Scalar.addi v2 c0_i32_6
  let c128_i32 : BitVec 32 := 128#32
  let v7 : BitVec 32 := Scalar.muli v6 c128_i32
  ![0, v7.toNat]
@[reducible] def k0_t1_loop : Scf.Loop 32 :=
  let c0_i32_86 : BitVec 32 := 0#32
  let c67_i32 : BitVec 32 := 67#32
  let v89 : BitVec 32 := Scalar.addi c0_i32_86 c67_i32
  let c1_i32_87 : BitVec 32 := 1#32
  ⟨c0_i32_86, v89, c1_i32_87⟩
def k0_off3 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_283 : BitVec 32 := 1#32
  let v348 : BitVec 32 := Scalar.addi arg14 c1_i32_283
  let v349 : Index := Scalar.indexCast v348
  let c0_i32_284 : BitVec 32 := 0#32
  let v350 : Index := Scalar.indexCast c0_i32_284
  let c0_i32_285 : BitVec 32 := 0#32
  let v351 : Index := Scalar.indexCast c0_i32_285
  let c0_286 : Index := 0#32
  ![v349.toNat, 0, 0, 0]
def k0_off4 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_287 : BitVec 32 := 1#32
  let v353 : BitVec 32 := Scalar.addi arg14 c1_i32_287
  let v354 : Index := Scalar.indexCast v353
  let c0_i32_288 : BitVec 32 := 0#32
  let v355 : Index := Scalar.indexCast c0_i32_288
  let c1_i32_289 : BitVec 32 := 1#32
  let v356 : Index := Scalar.indexCast c1_i32_289
  let c0_290 : Index := 0#32
  ![v354.toNat, 0, 1, 0]
def k0_off5 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v358 : Index := Scalar.indexCast arg14
  let c0_291 : Index := 0#32
  ![v358.toNat, 0]
def k0_off6 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_292 : BitVec 32 := 1#32
  let v368 : BitVec 32 := Scalar.addi arg14 c1_i32_292
  let v369 : Index := Scalar.indexCast v368
  let c0_i32_293 : BitVec 32 := 0#32
  let v370 : Index := Scalar.indexCast c0_i32_293
  let c0_i32_294 : BitVec 32 := 0#32
  let v371 : Index := Scalar.indexCast c0_i32_294
  let c16_295 : Index := 16#32
  ![v369.toNat, 0, 0, 16]
def k0_off7 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_296 : BitVec 32 := 1#32
  let v373 : BitVec 32 := Scalar.addi arg14 c1_i32_296
  let v374 : Index := Scalar.indexCast v373
  let c0_i32_297 : BitVec 32 := 0#32
  let v375 : Index := Scalar.indexCast c0_i32_297
  let c1_i32_298 : BitVec 32 := 1#32
  let v376 : Index := Scalar.indexCast c1_i32_298
  let c16_299 : Index := 16#32
  ![v374.toNat, 0, 1, 16]
def k0_off8 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v378 : Index := Scalar.indexCast arg14
  let c16_300 : Index := 16#32
  ![v378.toNat, 16]
def k0_off9 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_301 : BitVec 32 := 1#32
  let v388 : BitVec 32 := Scalar.addi arg14 c1_i32_301
  let v389 : Index := Scalar.indexCast v388
  let c0_i32_302 : BitVec 32 := 0#32
  let v390 : Index := Scalar.indexCast c0_i32_302
  let c0_i32_303 : BitVec 32 := 0#32
  let v391 : Index := Scalar.indexCast c0_i32_303
  let c32_304 : Index := 32#32
  ![v389.toNat, 0, 0, 32]
def k0_off10 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_305 : BitVec 32 := 1#32
  let v393 : BitVec 32 := Scalar.addi arg14 c1_i32_305
  let v394 : Index := Scalar.indexCast v393
  let c0_i32_306 : BitVec 32 := 0#32
  let v395 : Index := Scalar.indexCast c0_i32_306
  let c1_i32_307 : BitVec 32 := 1#32
  let v396 : Index := Scalar.indexCast c1_i32_307
  let c32_308 : Index := 32#32
  ![v394.toNat, 0, 1, 32]
def k0_off11 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v398 : Index := Scalar.indexCast arg14
  let c32_309 : Index := 32#32
  ![v398.toNat, 32]
def k0_off12 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_310 : BitVec 32 := 1#32
  let v408 : BitVec 32 := Scalar.addi arg14 c1_i32_310
  let v409 : Index := Scalar.indexCast v408
  let c0_i32_311 : BitVec 32 := 0#32
  let v410 : Index := Scalar.indexCast c0_i32_311
  let c0_i32_312 : BitVec 32 := 0#32
  let v411 : Index := Scalar.indexCast c0_i32_312
  let c48_313 : Index := 48#32
  ![v409.toNat, 0, 0, 48]
def k0_off13 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_314 : BitVec 32 := 1#32
  let v413 : BitVec 32 := Scalar.addi arg14 c1_i32_314
  let v414 : Index := Scalar.indexCast v413
  let c0_i32_315 : BitVec 32 := 0#32
  let v415 : Index := Scalar.indexCast c0_i32_315
  let c1_i32_316 : BitVec 32 := 1#32
  let v416 : Index := Scalar.indexCast c1_i32_316
  let c48_317 : Index := 48#32
  ![v414.toNat, 0, 1, 48]
def k0_off14 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v418 : Index := Scalar.indexCast arg14
  let c48_318 : Index := 48#32
  ![v418.toNat, 48]
def k0_off15 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_319 : BitVec 32 := 1#32
  let v428 : BitVec 32 := Scalar.addi arg14 c1_i32_319
  let v429 : Index := Scalar.indexCast v428
  let c0_i32_320 : BitVec 32 := 0#32
  let v430 : Index := Scalar.indexCast c0_i32_320
  let c0_i32_321 : BitVec 32 := 0#32
  let v431 : Index := Scalar.indexCast c0_i32_321
  let c64_322 : Index := 64#32
  ![v429.toNat, 0, 0, 64]
def k0_off16 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_323 : BitVec 32 := 1#32
  let v433 : BitVec 32 := Scalar.addi arg14 c1_i32_323
  let v434 : Index := Scalar.indexCast v433
  let c0_i32_324 : BitVec 32 := 0#32
  let v435 : Index := Scalar.indexCast c0_i32_324
  let c1_i32_325 : BitVec 32 := 1#32
  let v436 : Index := Scalar.indexCast c1_i32_325
  let c64_326 : Index := 64#32
  ![v434.toNat, 0, 1, 64]
def k0_off17 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v438 : Index := Scalar.indexCast arg14
  let c64_327 : Index := 64#32
  ![v438.toNat, 64]
def k0_off18 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_328 : BitVec 32 := 1#32
  let v448 : BitVec 32 := Scalar.addi arg14 c1_i32_328
  let v449 : Index := Scalar.indexCast v448
  let c0_i32_329 : BitVec 32 := 0#32
  let v450 : Index := Scalar.indexCast c0_i32_329
  let c0_i32_330 : BitVec 32 := 0#32
  let v451 : Index := Scalar.indexCast c0_i32_330
  let c80_331 : Index := 80#32
  ![v449.toNat, 0, 0, 80]
def k0_off19 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_332 : BitVec 32 := 1#32
  let v453 : BitVec 32 := Scalar.addi arg14 c1_i32_332
  let v454 : Index := Scalar.indexCast v453
  let c0_i32_333 : BitVec 32 := 0#32
  let v455 : Index := Scalar.indexCast c0_i32_333
  let c1_i32_334 : BitVec 32 := 1#32
  let v456 : Index := Scalar.indexCast c1_i32_334
  let c80_335 : Index := 80#32
  ![v454.toNat, 0, 1, 80]
def k0_off20 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v458 : Index := Scalar.indexCast arg14
  let c80_336 : Index := 80#32
  ![v458.toNat, 80]
def k0_off21 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_337 : BitVec 32 := 1#32
  let v468 : BitVec 32 := Scalar.addi arg14 c1_i32_337
  let v469 : Index := Scalar.indexCast v468
  let c0_i32_338 : BitVec 32 := 0#32
  let v470 : Index := Scalar.indexCast c0_i32_338
  let c0_i32_339 : BitVec 32 := 0#32
  let v471 : Index := Scalar.indexCast c0_i32_339
  let c96_340 : Index := 96#32
  ![v469.toNat, 0, 0, 96]
def k0_off22 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_341 : BitVec 32 := 1#32
  let v473 : BitVec 32 := Scalar.addi arg14 c1_i32_341
  let v474 : Index := Scalar.indexCast v473
  let c0_i32_342 : BitVec 32 := 0#32
  let v475 : Index := Scalar.indexCast c0_i32_342
  let c1_i32_343 : BitVec 32 := 1#32
  let v476 : Index := Scalar.indexCast c1_i32_343
  let c96_344 : Index := 96#32
  ![v474.toNat, 0, 1, 96]
def k0_off23 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v478 : Index := Scalar.indexCast arg14
  let c96_345 : Index := 96#32
  ![v478.toNat, 96]
def k0_off24 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_346 : BitVec 32 := 1#32
  let v488 : BitVec 32 := Scalar.addi arg14 c1_i32_346
  let v489 : Index := Scalar.indexCast v488
  let c0_i32_347 : BitVec 32 := 0#32
  let v490 : Index := Scalar.indexCast c0_i32_347
  let c0_i32_348 : BitVec 32 := 0#32
  let v491 : Index := Scalar.indexCast c0_i32_348
  let c112_349 : Index := 112#32
  ![v489.toNat, 0, 0, 112]
def k0_off25 (k0_t1 : Fin k0_t1_loop.trips) : Fin 4 → Nat :=
  let c0_i32_86 : BitVec 32 := 0#32
  let c1_i32_87 : BitVec 32 := 1#32
  let arg14 : BitVec 32 := Scf.iv c0_i32_86 c1_i32_87 k0_t1
  let c1_i32_350 : BitVec 32 := 1#32
  let v493 : BitVec 32 := Scalar.addi arg14 c1_i32_350
  let v494 : Index := Scalar.indexCast v493
  let c0_i32_351 : BitVec 32 := 0#32
  let v495 : Index := Scalar.indexCast c0_i32_351
  let c1_i32_352 : BitVec 32 := 1#32
  let v496 : Index := Scalar.indexCast c1_i32_352
  let c112_353 : Index := 112#32
  ![v494.toNat, 0, 1, 112]
def k0_off26 (k0_t1 : Fin k0_t1_loop.trips) : Fin 2 → Nat :=
  let c0_i32_86 : BitVec 32 := 0#32
  let c1_i32_87 : BitVec 32 := 1#32
  let arg14 : BitVec 32 := Scf.iv c0_i32_86 c1_i32_87 k0_t1
  let v498 : Index := Scalar.indexCast arg14
  let c112_354 : Index := 112#32
  ![v498.toNat, 112]
@[reducible] def k0_t2_loop : Scf.Loop 32 :=
  let c0_i32_183 : BitVec 32 := 0#32
  let c67_i32_184 : BitVec 32 := 67#32
  let v201 : BitVec 32 := Scalar.addi c0_i32_183 c67_i32_184
  let c1_i32_185 : BitVec 32 := 1#32
  ⟨c0_i32_183, v201, c1_i32_185⟩
def k0_off27 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_283 : BitVec 32 := 1#32
  let v348 : BitVec 32 := Scalar.addi arg14 c1_i32_283
  let v349 : Index := Scalar.indexCast v348
  let c0_i32_284 : BitVec 32 := 0#32
  let v350 : Index := Scalar.indexCast c0_i32_284
  let c0_i32_285 : BitVec 32 := 0#32
  let v351 : Index := Scalar.indexCast c0_i32_285
  let c0_286 : Index := 0#32
  ![v349.toNat, 0, 0, 0]
def k0_off28 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_287 : BitVec 32 := 1#32
  let v353 : BitVec 32 := Scalar.addi arg14 c1_i32_287
  let v354 : Index := Scalar.indexCast v353
  let c0_i32_288 : BitVec 32 := 0#32
  let v355 : Index := Scalar.indexCast c0_i32_288
  let c1_i32_289 : BitVec 32 := 1#32
  let v356 : Index := Scalar.indexCast c1_i32_289
  let c0_290 : Index := 0#32
  ![v354.toNat, 0, 1, 0]
def k0_off29 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v358 : Index := Scalar.indexCast arg14
  let c0_291 : Index := 0#32
  ![v358.toNat, 0]
def k0_off30 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_292 : BitVec 32 := 1#32
  let v368 : BitVec 32 := Scalar.addi arg14 c1_i32_292
  let v369 : Index := Scalar.indexCast v368
  let c0_i32_293 : BitVec 32 := 0#32
  let v370 : Index := Scalar.indexCast c0_i32_293
  let c0_i32_294 : BitVec 32 := 0#32
  let v371 : Index := Scalar.indexCast c0_i32_294
  let c16_295 : Index := 16#32
  ![v369.toNat, 0, 0, 16]
def k0_off31 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_296 : BitVec 32 := 1#32
  let v373 : BitVec 32 := Scalar.addi arg14 c1_i32_296
  let v374 : Index := Scalar.indexCast v373
  let c0_i32_297 : BitVec 32 := 0#32
  let v375 : Index := Scalar.indexCast c0_i32_297
  let c1_i32_298 : BitVec 32 := 1#32
  let v376 : Index := Scalar.indexCast c1_i32_298
  let c16_299 : Index := 16#32
  ![v374.toNat, 0, 1, 16]
def k0_off32 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v378 : Index := Scalar.indexCast arg14
  let c16_300 : Index := 16#32
  ![v378.toNat, 16]
def k0_off33 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_301 : BitVec 32 := 1#32
  let v388 : BitVec 32 := Scalar.addi arg14 c1_i32_301
  let v389 : Index := Scalar.indexCast v388
  let c0_i32_302 : BitVec 32 := 0#32
  let v390 : Index := Scalar.indexCast c0_i32_302
  let c0_i32_303 : BitVec 32 := 0#32
  let v391 : Index := Scalar.indexCast c0_i32_303
  let c32_304 : Index := 32#32
  ![v389.toNat, 0, 0, 32]
def k0_off34 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_305 : BitVec 32 := 1#32
  let v393 : BitVec 32 := Scalar.addi arg14 c1_i32_305
  let v394 : Index := Scalar.indexCast v393
  let c0_i32_306 : BitVec 32 := 0#32
  let v395 : Index := Scalar.indexCast c0_i32_306
  let c1_i32_307 : BitVec 32 := 1#32
  let v396 : Index := Scalar.indexCast c1_i32_307
  let c32_308 : Index := 32#32
  ![v394.toNat, 0, 1, 32]
def k0_off35 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v398 : Index := Scalar.indexCast arg14
  let c32_309 : Index := 32#32
  ![v398.toNat, 32]
def k0_off36 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_310 : BitVec 32 := 1#32
  let v408 : BitVec 32 := Scalar.addi arg14 c1_i32_310
  let v409 : Index := Scalar.indexCast v408
  let c0_i32_311 : BitVec 32 := 0#32
  let v410 : Index := Scalar.indexCast c0_i32_311
  let c0_i32_312 : BitVec 32 := 0#32
  let v411 : Index := Scalar.indexCast c0_i32_312
  let c48_313 : Index := 48#32
  ![v409.toNat, 0, 0, 48]
def k0_off37 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_314 : BitVec 32 := 1#32
  let v413 : BitVec 32 := Scalar.addi arg14 c1_i32_314
  let v414 : Index := Scalar.indexCast v413
  let c0_i32_315 : BitVec 32 := 0#32
  let v415 : Index := Scalar.indexCast c0_i32_315
  let c1_i32_316 : BitVec 32 := 1#32
  let v416 : Index := Scalar.indexCast c1_i32_316
  let c48_317 : Index := 48#32
  ![v414.toNat, 0, 1, 48]
def k0_off38 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v418 : Index := Scalar.indexCast arg14
  let c48_318 : Index := 48#32
  ![v418.toNat, 48]
def k0_off39 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_319 : BitVec 32 := 1#32
  let v428 : BitVec 32 := Scalar.addi arg14 c1_i32_319
  let v429 : Index := Scalar.indexCast v428
  let c0_i32_320 : BitVec 32 := 0#32
  let v430 : Index := Scalar.indexCast c0_i32_320
  let c0_i32_321 : BitVec 32 := 0#32
  let v431 : Index := Scalar.indexCast c0_i32_321
  let c64_322 : Index := 64#32
  ![v429.toNat, 0, 0, 64]
def k0_off40 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_323 : BitVec 32 := 1#32
  let v433 : BitVec 32 := Scalar.addi arg14 c1_i32_323
  let v434 : Index := Scalar.indexCast v433
  let c0_i32_324 : BitVec 32 := 0#32
  let v435 : Index := Scalar.indexCast c0_i32_324
  let c1_i32_325 : BitVec 32 := 1#32
  let v436 : Index := Scalar.indexCast c1_i32_325
  let c64_326 : Index := 64#32
  ![v434.toNat, 0, 1, 64]
def k0_off41 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v438 : Index := Scalar.indexCast arg14
  let c64_327 : Index := 64#32
  ![v438.toNat, 64]
def k0_off42 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_328 : BitVec 32 := 1#32
  let v448 : BitVec 32 := Scalar.addi arg14 c1_i32_328
  let v449 : Index := Scalar.indexCast v448
  let c0_i32_329 : BitVec 32 := 0#32
  let v450 : Index := Scalar.indexCast c0_i32_329
  let c0_i32_330 : BitVec 32 := 0#32
  let v451 : Index := Scalar.indexCast c0_i32_330
  let c80_331 : Index := 80#32
  ![v449.toNat, 0, 0, 80]
def k0_off43 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_332 : BitVec 32 := 1#32
  let v453 : BitVec 32 := Scalar.addi arg14 c1_i32_332
  let v454 : Index := Scalar.indexCast v453
  let c0_i32_333 : BitVec 32 := 0#32
  let v455 : Index := Scalar.indexCast c0_i32_333
  let c1_i32_334 : BitVec 32 := 1#32
  let v456 : Index := Scalar.indexCast c1_i32_334
  let c80_335 : Index := 80#32
  ![v454.toNat, 0, 1, 80]
def k0_off44 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v458 : Index := Scalar.indexCast arg14
  let c80_336 : Index := 80#32
  ![v458.toNat, 80]
def k0_off45 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_337 : BitVec 32 := 1#32
  let v468 : BitVec 32 := Scalar.addi arg14 c1_i32_337
  let v469 : Index := Scalar.indexCast v468
  let c0_i32_338 : BitVec 32 := 0#32
  let v470 : Index := Scalar.indexCast c0_i32_338
  let c0_i32_339 : BitVec 32 := 0#32
  let v471 : Index := Scalar.indexCast c0_i32_339
  let c96_340 : Index := 96#32
  ![v469.toNat, 0, 0, 96]
def k0_off46 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_341 : BitVec 32 := 1#32
  let v473 : BitVec 32 := Scalar.addi arg14 c1_i32_341
  let v474 : Index := Scalar.indexCast v473
  let c0_i32_342 : BitVec 32 := 0#32
  let v475 : Index := Scalar.indexCast c0_i32_342
  let c1_i32_343 : BitVec 32 := 1#32
  let v476 : Index := Scalar.indexCast c1_i32_343
  let c96_344 : Index := 96#32
  ![v474.toNat, 0, 1, 96]
def k0_off47 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v478 : Index := Scalar.indexCast arg14
  let c96_345 : Index := 96#32
  ![v478.toNat, 96]
def k0_off48 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_346 : BitVec 32 := 1#32
  let v488 : BitVec 32 := Scalar.addi arg14 c1_i32_346
  let v489 : Index := Scalar.indexCast v488
  let c0_i32_347 : BitVec 32 := 0#32
  let v490 : Index := Scalar.indexCast c0_i32_347
  let c0_i32_348 : BitVec 32 := 0#32
  let v491 : Index := Scalar.indexCast c0_i32_348
  let c112_349 : Index := 112#32
  ![v489.toNat, 0, 0, 112]
def k0_off49 (k0_t2 : Fin k0_t2_loop.trips) : Fin 4 → Nat :=
  let c0_i32_183 : BitVec 32 := 0#32
  let c1_i32_185 : BitVec 32 := 1#32
  let arg14 : BitVec 32 := Scf.iv c0_i32_183 c1_i32_185 k0_t2
  let c1_i32_350 : BitVec 32 := 1#32
  let v493 : BitVec 32 := Scalar.addi arg14 c1_i32_350
  let v494 : Index := Scalar.indexCast v493
  let c0_i32_351 : BitVec 32 := 0#32
  let v495 : Index := Scalar.indexCast c0_i32_351
  let c1_i32_352 : BitVec 32 := 1#32
  let v496 : Index := Scalar.indexCast c1_i32_352
  let c112_353 : Index := 112#32
  ![v494.toNat, 0, 1, 112]
def k0_off50 (k0_t2 : Fin k0_t2_loop.trips) : Fin 2 → Nat :=
  let c0_i32_183 : BitVec 32 := 0#32
  let c1_i32_185 : BitVec 32 := 1#32
  let arg14 : BitVec 32 := Scf.iv c0_i32_183 c1_i32_185 k0_t2
  let v498 : Index := Scalar.indexCast arg14
  let c112_354 : Index := 112#32
  ![v498.toNat, 112]
@[reducible] def k0_t3_loop : Scf.Loop 32 :=
  let c0_i32_270 : BitVec 32 := 0#32
  let c67_i32_271 : BitVec 32 := 67#32
  let v306 : BitVec 32 := Scalar.addi c0_i32_270 c67_i32_271
  let c1_i32_272 : BitVec 32 := 1#32
  ⟨c0_i32_270, v306, c1_i32_272⟩
def k0_off51 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_283 : BitVec 32 := 1#32
  let v348 : BitVec 32 := Scalar.addi arg14 c1_i32_283
  let v349 : Index := Scalar.indexCast v348
  let c0_i32_284 : BitVec 32 := 0#32
  let v350 : Index := Scalar.indexCast c0_i32_284
  let c0_i32_285 : BitVec 32 := 0#32
  let v351 : Index := Scalar.indexCast c0_i32_285
  let c0_286 : Index := 0#32
  ![v349.toNat, 0, 0, 0]
def k0_off52 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_287 : BitVec 32 := 1#32
  let v353 : BitVec 32 := Scalar.addi arg14 c1_i32_287
  let v354 : Index := Scalar.indexCast v353
  let c0_i32_288 : BitVec 32 := 0#32
  let v355 : Index := Scalar.indexCast c0_i32_288
  let c1_i32_289 : BitVec 32 := 1#32
  let v356 : Index := Scalar.indexCast c1_i32_289
  let c0_290 : Index := 0#32
  ![v354.toNat, 0, 1, 0]
def k0_off53 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v358 : Index := Scalar.indexCast arg14
  let c0_291 : Index := 0#32
  ![v358.toNat, 0]
def k0_off54 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_292 : BitVec 32 := 1#32
  let v368 : BitVec 32 := Scalar.addi arg14 c1_i32_292
  let v369 : Index := Scalar.indexCast v368
  let c0_i32_293 : BitVec 32 := 0#32
  let v370 : Index := Scalar.indexCast c0_i32_293
  let c0_i32_294 : BitVec 32 := 0#32
  let v371 : Index := Scalar.indexCast c0_i32_294
  let c16_295 : Index := 16#32
  ![v369.toNat, 0, 0, 16]
def k0_off55 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_296 : BitVec 32 := 1#32
  let v373 : BitVec 32 := Scalar.addi arg14 c1_i32_296
  let v374 : Index := Scalar.indexCast v373
  let c0_i32_297 : BitVec 32 := 0#32
  let v375 : Index := Scalar.indexCast c0_i32_297
  let c1_i32_298 : BitVec 32 := 1#32
  let v376 : Index := Scalar.indexCast c1_i32_298
  let c16_299 : Index := 16#32
  ![v374.toNat, 0, 1, 16]
def k0_off56 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v378 : Index := Scalar.indexCast arg14
  let c16_300 : Index := 16#32
  ![v378.toNat, 16]
def k0_off57 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_301 : BitVec 32 := 1#32
  let v388 : BitVec 32 := Scalar.addi arg14 c1_i32_301
  let v389 : Index := Scalar.indexCast v388
  let c0_i32_302 : BitVec 32 := 0#32
  let v390 : Index := Scalar.indexCast c0_i32_302
  let c0_i32_303 : BitVec 32 := 0#32
  let v391 : Index := Scalar.indexCast c0_i32_303
  let c32_304 : Index := 32#32
  ![v389.toNat, 0, 0, 32]
def k0_off58 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_305 : BitVec 32 := 1#32
  let v393 : BitVec 32 := Scalar.addi arg14 c1_i32_305
  let v394 : Index := Scalar.indexCast v393
  let c0_i32_306 : BitVec 32 := 0#32
  let v395 : Index := Scalar.indexCast c0_i32_306
  let c1_i32_307 : BitVec 32 := 1#32
  let v396 : Index := Scalar.indexCast c1_i32_307
  let c32_308 : Index := 32#32
  ![v394.toNat, 0, 1, 32]
def k0_off59 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v398 : Index := Scalar.indexCast arg14
  let c32_309 : Index := 32#32
  ![v398.toNat, 32]
def k0_off60 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_310 : BitVec 32 := 1#32
  let v408 : BitVec 32 := Scalar.addi arg14 c1_i32_310
  let v409 : Index := Scalar.indexCast v408
  let c0_i32_311 : BitVec 32 := 0#32
  let v410 : Index := Scalar.indexCast c0_i32_311
  let c0_i32_312 : BitVec 32 := 0#32
  let v411 : Index := Scalar.indexCast c0_i32_312
  let c48_313 : Index := 48#32
  ![v409.toNat, 0, 0, 48]
def k0_off61 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_314 : BitVec 32 := 1#32
  let v413 : BitVec 32 := Scalar.addi arg14 c1_i32_314
  let v414 : Index := Scalar.indexCast v413
  let c0_i32_315 : BitVec 32 := 0#32
  let v415 : Index := Scalar.indexCast c0_i32_315
  let c1_i32_316 : BitVec 32 := 1#32
  let v416 : Index := Scalar.indexCast c1_i32_316
  let c48_317 : Index := 48#32
  ![v414.toNat, 0, 1, 48]
def k0_off62 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v418 : Index := Scalar.indexCast arg14
  let c48_318 : Index := 48#32
  ![v418.toNat, 48]
def k0_off63 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_319 : BitVec 32 := 1#32
  let v428 : BitVec 32 := Scalar.addi arg14 c1_i32_319
  let v429 : Index := Scalar.indexCast v428
  let c0_i32_320 : BitVec 32 := 0#32
  let v430 : Index := Scalar.indexCast c0_i32_320
  let c0_i32_321 : BitVec 32 := 0#32
  let v431 : Index := Scalar.indexCast c0_i32_321
  let c64_322 : Index := 64#32
  ![v429.toNat, 0, 0, 64]
def k0_off64 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_323 : BitVec 32 := 1#32
  let v433 : BitVec 32 := Scalar.addi arg14 c1_i32_323
  let v434 : Index := Scalar.indexCast v433
  let c0_i32_324 : BitVec 32 := 0#32
  let v435 : Index := Scalar.indexCast c0_i32_324
  let c1_i32_325 : BitVec 32 := 1#32
  let v436 : Index := Scalar.indexCast c1_i32_325
  let c64_326 : Index := 64#32
  ![v434.toNat, 0, 1, 64]
def k0_off65 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v438 : Index := Scalar.indexCast arg14
  let c64_327 : Index := 64#32
  ![v438.toNat, 64]
def k0_off66 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_328 : BitVec 32 := 1#32
  let v448 : BitVec 32 := Scalar.addi arg14 c1_i32_328
  let v449 : Index := Scalar.indexCast v448
  let c0_i32_329 : BitVec 32 := 0#32
  let v450 : Index := Scalar.indexCast c0_i32_329
  let c0_i32_330 : BitVec 32 := 0#32
  let v451 : Index := Scalar.indexCast c0_i32_330
  let c80_331 : Index := 80#32
  ![v449.toNat, 0, 0, 80]
def k0_off67 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_332 : BitVec 32 := 1#32
  let v453 : BitVec 32 := Scalar.addi arg14 c1_i32_332
  let v454 : Index := Scalar.indexCast v453
  let c0_i32_333 : BitVec 32 := 0#32
  let v455 : Index := Scalar.indexCast c0_i32_333
  let c1_i32_334 : BitVec 32 := 1#32
  let v456 : Index := Scalar.indexCast c1_i32_334
  let c80_335 : Index := 80#32
  ![v454.toNat, 0, 1, 80]
def k0_off68 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v458 : Index := Scalar.indexCast arg14
  let c80_336 : Index := 80#32
  ![v458.toNat, 80]
def k0_off69 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_337 : BitVec 32 := 1#32
  let v468 : BitVec 32 := Scalar.addi arg14 c1_i32_337
  let v469 : Index := Scalar.indexCast v468
  let c0_i32_338 : BitVec 32 := 0#32
  let v470 : Index := Scalar.indexCast c0_i32_338
  let c0_i32_339 : BitVec 32 := 0#32
  let v471 : Index := Scalar.indexCast c0_i32_339
  let c96_340 : Index := 96#32
  ![v469.toNat, 0, 0, 96]
def k0_off70 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_341 : BitVec 32 := 1#32
  let v473 : BitVec 32 := Scalar.addi arg14 c1_i32_341
  let v474 : Index := Scalar.indexCast v473
  let c0_i32_342 : BitVec 32 := 0#32
  let v475 : Index := Scalar.indexCast c0_i32_342
  let c1_i32_343 : BitVec 32 := 1#32
  let v476 : Index := Scalar.indexCast c1_i32_343
  let c96_344 : Index := 96#32
  ![v474.toNat, 0, 1, 96]
def k0_off71 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v478 : Index := Scalar.indexCast arg14
  let c96_345 : Index := 96#32
  ![v478.toNat, 96]
def k0_off72 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_346 : BitVec 32 := 1#32
  let v488 : BitVec 32 := Scalar.addi arg14 c1_i32_346
  let v489 : Index := Scalar.indexCast v488
  let c0_i32_347 : BitVec 32 := 0#32
  let v490 : Index := Scalar.indexCast c0_i32_347
  let c0_i32_348 : BitVec 32 := 0#32
  let v491 : Index := Scalar.indexCast c0_i32_348
  let c112_349 : Index := 112#32
  ![v489.toNat, 0, 0, 112]
def k0_off73 (k0_t3 : Fin k0_t3_loop.trips) : Fin 4 → Nat :=
  let c0_i32_270 : BitVec 32 := 0#32
  let c1_i32_272 : BitVec 32 := 1#32
  let arg14 : BitVec 32 := Scf.iv c0_i32_270 c1_i32_272 k0_t3
  let c1_i32_350 : BitVec 32 := 1#32
  let v493 : BitVec 32 := Scalar.addi arg14 c1_i32_350
  let v494 : Index := Scalar.indexCast v493
  let c0_i32_351 : BitVec 32 := 0#32
  let v495 : Index := Scalar.indexCast c0_i32_351
  let c1_i32_352 : BitVec 32 := 1#32
  let v496 : Index := Scalar.indexCast c1_i32_352
  let c112_353 : Index := 112#32
  ![v494.toNat, 0, 1, 112]
def k0_off74 (k0_t3 : Fin k0_t3_loop.trips) : Fin 2 → Nat :=
  let c0_i32_270 : BitVec 32 := 0#32
  let c1_i32_272 : BitVec 32 := 1#32
  let arg14 : BitVec 32 := Scf.iv c0_i32_270 c1_i32_272 k0_t3
  let v498 : Index := Scalar.indexCast arg14
  let c112_354 : Index := 112#32
  ![v498.toNat, 112]
def k0_off75 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_283_r0 : BitVec 32 := 0#32
  ![v1.toNat, 0]
abbrev grid1 : Pipeline.Grid := ⟨1, ![2], ![false]⟩

def cc1_transform_0 (i : grid1.Coords) : Fin 4 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_1 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S68x16x2x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S67x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x68x2 : Shape := ⟨3, ![16384, 68, 2]⟩
abbrev S16384x67 : Shape := ⟨2, ![16384, 67]⟩
abbrev S67 : Shape := ⟨1, ![67]⟩
abbrev S_ : Shape := ⟨0, ![]⟩
abbrev S67x1 : Shape := ⟨2, ![67, 1]⟩
abbrev S1 : Shape := ⟨1, ![1]⟩
abbrev S1x1 : Shape := ⟨2, ![1, 1]⟩
abbrev S16384x67x2 : Shape := ⟨3, ![16384, 67, 2]⟩
abbrev S16384 : Shape := ⟨1, ![16384]⟩

abbrev nBuf : Space → Nat
  | .hbm => 70
  | .vmem => 0
  | .smem => 0
  | _ => 0

abbrev bufTy : (tb : Table) → Fin (tcTables nBuf tb) → BufTy
  | .hbm, ⟨0, _⟩ => ⟨S16384x68x2, .f32⟩
  | .hbm, ⟨1, _⟩ => ⟨S16384x67, .f32⟩
  | .hbm, ⟨2, _⟩ => ⟨S67, .i32⟩
  | .hbm, ⟨3, _⟩ => ⟨S67, .i32⟩
  | .hbm, ⟨4, _⟩ => ⟨S_, .i32⟩
  | .hbm, ⟨5, _⟩ => ⟨S67, .i32⟩
  | .hbm, ⟨6, _⟩ => ⟨S67, .i1⟩
  | .hbm, ⟨7, _⟩ => ⟨S_, .i32⟩
  | .hbm, ⟨8, _⟩ => ⟨S67, .i32⟩
  | .hbm, ⟨9, _⟩ => ⟨S67, .i32⟩
  | .hbm, ⟨10, _⟩ => ⟨S67, .i32⟩
  | .hbm, ⟨11, _⟩ => ⟨S67x1, .i32⟩
  | .hbm, ⟨12, _⟩ => ⟨S1, .i32⟩
  | .hbm, ⟨13, _⟩ => ⟨S_, .i32⟩
  | .hbm, ⟨14, _⟩ => ⟨S67x1, .i32⟩
  | .hbm, ⟨15, _⟩ => ⟨S67x1, .i1⟩
  | .hbm, ⟨16, _⟩ => ⟨S1x1, .i32⟩
  | .hbm, ⟨17, _⟩ => ⟨S67x1, .i32⟩
  | .hbm, ⟨18, _⟩ => ⟨S67x1, .i1⟩
  | .hbm, ⟨19, _⟩ => ⟨S67x1, .i1⟩
  | .hbm, ⟨20, _⟩ => ⟨S_, .i1⟩
  | .hbm, ⟨21, _⟩ => ⟨S67, .i1⟩
  | .hbm, ⟨22, _⟩ => ⟨S16384x67x2, .f32⟩
  | .hbm, ⟨23, _⟩ => ⟨S16384x67x2, .i1⟩
  | .hbm, ⟨24, _⟩ => ⟨S_, .f32⟩
  | .hbm, ⟨25, _⟩ => ⟨S16384x67x2, .f32⟩
  | .hbm, ⟨26, _⟩ => ⟨S16384x67x2, .f32⟩
  | .hbm, ⟨27, _⟩ => ⟨S_, .i32⟩
  | .hbm, ⟨28, _⟩ => ⟨S67, .i32⟩
  | .hbm, ⟨29, _⟩ => ⟨S67, .i1⟩
  | .hbm, ⟨30, _⟩ => ⟨S_, .i32⟩
  | .hbm, ⟨31, _⟩ => ⟨S67, .i32⟩
  | .hbm, ⟨32, _⟩ => ⟨S67, .i32⟩
  | .hbm, ⟨33, _⟩ => ⟨S67, .i32⟩
  | .hbm, ⟨34, _⟩ => ⟨S67x1, .i32⟩
  | .hbm, ⟨35, _⟩ => ⟨S1, .i32⟩
  | .hbm, ⟨36, _⟩ => ⟨S_, .i32⟩
  | .hbm, ⟨37, _⟩ => ⟨S67x1, .i32⟩
  | .hbm, ⟨38, _⟩ => ⟨S67x1, .i1⟩
  | .hbm, ⟨39, _⟩ => ⟨S1x1, .i32⟩
  | .hbm, ⟨40, _⟩ => ⟨S67x1, .i32⟩
  | .hbm, ⟨41, _⟩ => ⟨S67x1, .i1⟩
  | .hbm, ⟨42, _⟩ => ⟨S67x1, .i1⟩
  | .hbm, ⟨43, _⟩ => ⟨S_, .i1⟩
  | .hbm, ⟨44, _⟩ => ⟨S67, .i1⟩
  | .hbm, ⟨45, _⟩ => ⟨S16384x67x2, .f32⟩
  | .hbm, ⟨46, _⟩ => ⟨S16384x67x2, .i1⟩
  | .hbm, ⟨47, _⟩ => ⟨S_, .f32⟩
  | .hbm, ⟨48, _⟩ => ⟨S16384x67x2, .f32⟩
  | .hbm, ⟨49, _⟩ => ⟨S16384x67x2, .f32⟩
  | .hbm, ⟨50, _⟩ => ⟨S16384x67x2, .f32⟩
  | .hbm, ⟨51, _⟩ => ⟨S16384x67x2, .f32⟩
  | .hbm, ⟨52, _⟩ => ⟨S_, .f32⟩
  | .hbm, ⟨53, _⟩ => ⟨S16384x67, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S16384x67, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16384x68x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_cst : Ref sig .tc := ⟨.hbm, 52, rfl⟩
abbrev main_v4 : Ref sig .tc := ⟨.hbm, 53, rfl⟩
abbrev main_cst_1 : Ref sig .tc := ⟨.hbm, 54, rfl⟩
abbrev main_v5 : Ref sig .tc := ⟨.hbm, 55, rfl⟩
abbrev main_cst_2 : Ref sig .tc := ⟨.hbm, 56, rfl⟩
abbrev main_call2_v0 : Ref sig .tc := ⟨.hbm, 57, rfl⟩
abbrev main_call2_v1 : Ref sig .tc := ⟨.hbm, 58, rfl⟩
abbrev main_v6 : Ref sig .tc := ⟨.hbm, 59, rfl⟩
abbrev main_v7 : Ref sig .tc := ⟨.hbm, 60, rfl⟩
abbrev main_cst_3 : Ref sig .tc := ⟨.hbm, 61, rfl⟩
abbrev main_v8 : Ref sig .tc := ⟨.hbm, 62, rfl⟩
abbrev main_v9 : Ref sig .tc := ⟨.hbm, 63, rfl⟩
abbrev main_cst_4 : Ref sig .tc := ⟨.hbm, 64, rfl⟩
abbrev main_v10 : Ref sig .tc := ⟨.hbm, 65, rfl⟩
abbrev main_cst_5 : Ref sig .tc := ⟨.hbm, 66, rfl⟩
abbrev main_v11 : Ref sig .tc := ⟨.hbm, 67, rfl⟩
abbrev main_cst_6 : Ref sig .tc := ⟨.hbm, 68, rfl⟩
abbrev main_v12 : Ref sig .tc := ⟨.hbm, 69, rfl⟩

abbrev nD : Nat := 1
abbrev τ : Topo := Topo.v7x

variable {F : FTy → Type} [FloatOps F]
-- ==== Proof.Setup.lean ====
/-
  The launch as every module of this proof sees it: the program's tables, the resource algebra (the handshakes' rounds,
  the pipeline's rounds, the transfers' counters), the arrays and the views of them the program takes, all over an
  arbitrary reading `F` of the float formats.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Wing

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's tables -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side facts of the launch semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- Everything the proof owns lives in this algebra. -/
abbrev MM (F : FTy → Type) : Type := MT nD τ sig (HIx 1) (Elt F) ℕ UU ℕ

/-- Where the handshakes' rounds live, -/
abbrev EH : Emb UH (MM F) := embL
/-- and the pipeline's. -/
abbrev EP : Emb UP (MM F) := (Emb.inl : Emb UP (UP × Counters)).trans embR

/-! ## A tile: SparseCore `L 0`, subcore `L 1` -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

end Cert.Proof.Wing

end
-- ==== Proof.Lanes.lean ====
/-
  What one block's loop carries. A block of 128 rows lies in a tile's memory as 68 points of two coordinates
  (`x`, `y`) over 128 lanes and 67 weights over 128 lanes; eight groups of 16 lanes are worked on side by side. Before
  trip `n` the loop carries, per group, the coordinates of point `n`, the weighted sum of the first `n` edges and the
  sum of their weights.
-/
module

public import proofs.«01_k».proof.Proof.Setup

@[expose] public section

noncomputable section

namespace Cert.Proof.Wing

open Cert.KernelIdeal Cert.KernelIdeal.Gen
open Idealize.ShloMosaic

variable {F : FTy → Type}

/-- Point `k`, coordinate `c`, lane `j` of a block of points (each number read within its extent). -/
def cix (k c j : Nat) : S68x1x2x128.Idx
  | 0 => Fin.ofNat 68 k | 1 => Fin.ofNat 1 0 | 2 => Fin.ofNat 2 c | 3 => Fin.ofNat 128 j

/-- Edge `e`, lane `j` of a block of weights. -/
def mix (e j : Nat) : S67x128.Idx
  | 0 => Fin.ofNat 67 e | 1 => Fin.ofNat 128 j

/-- Coordinate `c` of point `k` over the lanes of group `g`. -/
def crd (X : Vec F S68x1x2x128 .f32) (k c g : Nat) : FVec F S16 .f32 := fun l => X (cix k c (16 * g + (l 0).val))
/-- Weight of edge `e` over the lanes of group `g`. -/
def wgt (W : Vec F S67x128 .f32) (e g : Nat) : FVec F S16 .f32 := fun l => W (mix e (16 * g + (l 0).val))

variable [FloatOps F]

/-- The weighted sum of the first `n` edges, -/
def num (X : Vec F S68x1x2x128 .f32) (W : Vec F S67x128 .f32) (g : Nat) : Nat → FVec F S16 .f32
  | 0 => k0_pay115
  | n + 1 => addf (num X W g n) (mulf (addf (absf (subf (crd X n 0 g) (crd X (n + 1) 0 g))) (absf (subf (crd X n 1 g) (crd X (n + 1) 1 g)))) (wgt W n g))
/-- and the sum of their weights. -/
def den (W : Vec F S67x128 .f32) (g : Nat) : Nat → FVec F S16 .f32
  | 0 => k0_pay115
  | n + 1 => addf (den W g n) (wgt W n g)

/-- A block's contribution at group `g`: the quotient of the two, the weights' sum taken at least one. -/
def quo (X : Vec F S68x1x2x128 .f32) (W : Vec F S67x128 .f32) (g : Nat) : FVec F S16 .f32 :=
  divf (num X W g 67) (maximumf (den W g 67) (broadcast S16 (Scalar.ofBits .f32 0x3F800000#32)))

/-- The eight groups' values, in the order they are carried, before what follows. -/
abbrev eight {β : Type} (f : Nat → FVec F S16 .f32) (b : β) :
    FVec F S16 .f32 × FVec F S16 .f32 × FVec F S16 .f32 × FVec F S16 .f32 × FVec F S16 .f32 × FVec F S16 .f32 × FVec F S16 .f32 × FVec F S16 .f32 × β :=
  (f 0, f 1, f 2, f 3, f 4, f 5, f 6, f 7, b)

/-- All that the loop carries before trip `n`. -/
abbrev carry (X : Vec F S68x1x2x128 .f32) (W : Vec F S67x128 .f32) (n : Nat) :=
  eight (crd X n 0) (eight (crd X n 1) (eight (num X W · n)
    (den W 0 n, den W 1 n, den W 2 n, den W 3 n, den W 4 n, den W 5 n, den W 6 n, den W 7 n)))

end Cert.Proof.Wing

end
-- ==== Proof.Trip.lean ====
/-
  One trip of a block's loop, at any pair of a coordinate buffer and a weight buffer of the tile: from the carried
  values before trip `k` it yields those before trip `k + 1`, the buffers unchanged.
-/
module

public import proofs.«01_k».proof.Proof.Lanes

@[expose] public section

noncomputable section

namespace Cert.Proof.Wing

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The lane a load's position in memory order reads: the four-axis window keeps the lane in its last axis, -/
theorem lane4 (l : S16.Idx) : (Shape.reshapeEquiv (s := S1x1x1x16) (s' := S16) shapeCasts_S1x1x1x16_S16 l 3).val = (l 0).val := by
  revert l; decide +kernel
/-- and so does the two-axis one. -/
theorem lane2 (l : S16.Idx) : (Shape.reshapeEquiv (s := S1x16) (s' := S16) shapeCasts_S1x16_S16 l 1).val = (l 0).val := by
  revert l; decide +kernel

/-- Sixteen lanes loaded from a coordinate buffer are a group's coordinates. -/
theorem load_crd (d : Dev nD) (L : grid0.Coords) (cb : Memref sig .scVector .vmem S68x1x2x128 .f32) (f : Buf (Elt F) (cb.view.loc (VT d L)))
    (off : Fin 4 → Nat) (h : ∀ a, off a + S1x1x1x16.size a ≤ S68x1x2x128.size a) (k c g : Nat) (ho : off = ![k, 0, c, 16 * g]) :
    shapeCast S16 (cb.view.readAt (Elt F) (Rect.unit (s := S68x1x2x128) off S1x1x1x16.size h).toLoadRect f) shapeCasts_S1x1x1x16_S16
      = (crd (cb.view.read (Elt F) f) k c g : FVec F S16 .f32) := by
  subst ho
  funext l
  have h0 : k + 1 ≤ 68 := h 0
  have h2 : c + 1 ≤ 2 := h 2
  have h3 : 16 * g + 16 ≤ 128 := h 3
  have hl : (l 0).val < 16 := (l 0).isLt
  have e := lane4 l
  show cb.view.readAt (Elt F) _ f _ = _
  rw [View.readAt_apply]
  unfold crd
  congr 1
  funext a
  apply Fin.ext
  generalize hj : Shape.reshapeEquiv (s := S1x1x1x16) (s' := S16) shapeCasts_S1x1x1x16_S16 l = j at e ⊢
  have j0 : (j 0).val < 1 := (j 0).isLt
  have j2 : (j 2).val < 1 := (j 2).isLt
  match a with
  | 0 => show k + 1 * (j 0).val = k % 68; omega
  | 1 => have j1 : (j 1).val < 1 := (j 1).isLt
         show 0 + 1 * (j 1).val = 0 % 1; omega
  | 2 => show c + 1 * (j 2).val = c % 2; omega
  | 3 => show 16 * g + 1 * (j 3).val = (16 * g + (l 0).val) % 128; omega

/-- Sixteen lanes loaded from a weight buffer are a group's weights. -/
theorem load_wgt (d : Dev nD) (L : grid0.Coords) (mb : Memref sig .scVector .vmem S67x128 .f32) (f : Buf (Elt F) (mb.view.loc (VT d L)))
    (off : Fin 2 → Nat) (h : ∀ a, off a + S1x16.size a ≤ S67x128.size a) (e g : Nat) (ho : off = ![e, 16 * g]) :
    shapeCast S16 (mb.view.readAt (Elt F) (Rect.unit (s := S67x128) off S1x16.size h).toLoadRect f) shapeCasts_S1x16_S16
      = (wgt (mb.view.read (Elt F) f) e g : FVec F S16 .f32) := by
  subst ho
  funext l
  have h0 : e + 1 ≤ 67 := h 0
  have h1 : 16 * g + 16 ≤ 128 := h 1
  have hl : (l 0).val < 16 := (l 0).isLt
  have el := lane2 l
  show mb.view.readAt (Elt F) _ f _ = _
  rw [View.readAt_apply]
  unfold wgt
  congr 1
  funext a
  apply Fin.ext
  generalize hj : Shape.reshapeEquiv (s := S1x16) (s' := S16) shapeCasts_S1x16_S16 l = j at el ⊢
  have j0 : (j 0).val < 1 := (j 0).isLt
  match a with
  | 0 => show e + 1 * (j 0).val = e % 67; omega
  | 1 => show 16 * g + 1 * (j 1).val = (16 * g + (l 0).val) % 128; omega

variable [FloatOps F]

/-- One trip, at the buffers `cb` and `mb`. -/
theorem trip (d : Dev nD) (L : grid0.Coords) (a2 : Memref sig .scVector .hbm S68x128x2x128 .f32) (h2 : a2.IsWhole)
    (a3 : Memref sig .scVector .hbm S67x16384 .f32) (h3 : a3.IsWhole) (a4 : Memref sig .scVector .hbm S32x16 .f32) (h4 : a4.IsWhole)
    (cb : Memref sig .scVector .vmem S68x1x2x128 .f32) (hcb : cb.IsWhole) (a6 : Memref sig .scVector .vmem S68x1x2x128 .f32) (h6 : a6.IsWhole)
    (mb : Memref sig .scVector .vmem S67x128 .f32) (hmb : mb.IsWhole) (a8 : Memref sig .scVector .vmem S67x128 .f32) (h8 : a8.IsWhole)
    (a9 : Memref sig .scVector .vmem S16 .f32) (h9 : a9.IsWhole) (s0 s1 s2 s3 s4 : DmaSems sig S_)
    (u0 u1 u2 u3 u4 u5 u6 u7 u8 u9 u10 u11 u12 : FVec F S16 .f32) (b0 b1 b2 : BitVec 32)
    (f : Buf (Elt F) (cb.view.loc (VT d L))) (w : Buf (Elt F) (mb.view.loc (VT d L))) (k : Fin k0_t1_loop.trips) :
    (iprop((cb.view.loc (VT d L) ↦[cb.view.set]{fullShare} f) ∗ (mb.view.loc (VT d L) ↦[mb.view.set]{fullShare} w)) : sProp (MM F))
      ⊢ wp frame (wpE (defs₀ (F := F)) 𝒱₀ (VT d L) none) Set.univ
          (k0_t1_body L a2 h2 a3 h3 a4 h4 cb hcb a6 h6 mb hmb a8 h8 a9 h9 s0 s1 s2 s3 s4 u0 u1 u2 u3 u4 u5 u6 u7 u8 u9 u10 u11 u12 b0 b1 b2 k
            (carry (cb.view.read (Elt F) f) (mb.view.read (Elt F) w) k.val))
          fun acc => iprop(⌜acc = carry (cb.view.read (Elt F) f) (mb.view.read (Elt F) w) (k.val + 1)⌝
            ∗ (cb.view.loc (VT d L) ↦[cb.view.set]{fullShare} f) ∗ (mb.view.loc (VT d L) ↦[mb.view.set]{fullShare} w)) := by
  iintro ⟨HC, HM⟩
  unfold k0_t1_body
  sl_exec_parts
  sl_step
  isplitr
  · ipureintro
    have X := fun off h k c g ho => load_crd (F := F) d L cb f off h k c g ho
    have W := fun off h e g ho => load_wgt (F := F) d L mb w off h e g ho
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay132, k0_pay133, k0_pay134, k0_pay135,
      X _ _ (k + 1) 0 0 (k0_off3_eq k), X _ _ (k + 1) 1 0 (k0_off4_eq k), W _ _ k 0 (k0_off5_eq k),
      X _ _ (k + 1) 0 1 (k0_off6_eq k), X _ _ (k + 1) 1 1 (k0_off7_eq k), W _ _ k 1 (k0_off8_eq k),
      X _ _ (k + 1) 0 2 (k0_off9_eq k), X _ _ (k + 1) 1 2 (k0_off10_eq k), W _ _ k 2 (k0_off11_eq k),
      X _ _ (k + 1) 0 3 (k0_off12_eq k), X _ _ (k + 1) 1 3 (k0_off13_eq k), W _ _ k 3 (k0_off14_eq k),
      X _ _ (k + 1) 0 4 (k0_off15_eq k), X _ _ (k + 1) 1 4 (k0_off16_eq k), W _ _ k 4 (k0_off17_eq k),
      X _ _ (k + 1) 0 5 (k0_off18_eq k), X _ _ (k + 1) 1 5 (k0_off19_eq k), W _ _ k 5 (k0_off20_eq k),
      X _ _ (k + 1) 0 6 (k0_off21_eq k), X _ _ (k + 1) 1 6 (k0_off22_eq k), W _ _ k 6 (k0_off23_eq k),
      X _ _ (k + 1) 0 7 (k0_off24_eq k), X _ _ (k + 1) 1 7 (k0_off25_eq k), W _ _ k 7 (k0_off26_eq k)]
    rfl
  isplitl [HC]; · iexact HC
  iexact HM

end Cert.Proof.Wing

end
-- ==== Proof.TileRun.lean ====
/-
  The tile's body run once, at a symbolic pair of SparseCore and subcore: three blocks of 128 rows, each fetched into
  one of two pairs of buffers while the other pair is worked on, their contributions added up lane by lane and the
  sixteen sums sent to the tile's row of the result.
-/
module

public import proofs.«01_k».proof.Proof.Trip
public import Idealize.ShloMosaic.Lib.VecWindow

@[expose] public section

noncomputable section

namespace Cert.Proof.Wing

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The tile's memrefs, as the program passes them -/

local notation "cvV" => (Memref.whole Cert.KernelIdeal.main_v1_scv : Memref Cert.KernelIdeal.sig Kind.scVector Space.hbm Cert.KernelIdeal.S68x128x2x128 EltTy.f32)
local notation "mvV" => (Memref.whole Cert.KernelIdeal.main_v2_scv : Memref Cert.KernelIdeal.sig Kind.scVector Space.hbm Cert.KernelIdeal.S67x16384 EltTy.f32)
local notation "ouV" => (Memref.whole Cert.KernelIdeal.main_v3_scv : Memref Cert.KernelIdeal.sig Kind.scVector Space.hbm Cert.KernelIdeal.S32x16 EltTy.f32)
local notation "c0V" => (Memref.whole Cert.KernelIdeal.cc0_scratch0 : Memref Cert.KernelIdeal.sig Kind.scVector Space.vmem Cert.KernelIdeal.S68x1x2x128 EltTy.f32)
local notation "c1V" => (Memref.whole Cert.KernelIdeal.cc0_scratch1 : Memref Cert.KernelIdeal.sig Kind.scVector Space.vmem Cert.KernelIdeal.S68x1x2x128 EltTy.f32)
local notation "m0V" => (Memref.whole Cert.KernelIdeal.cc0_scratch2 : Memref Cert.KernelIdeal.sig Kind.scVector Space.vmem Cert.KernelIdeal.S67x128 EltTy.f32)
local notation "m1V" => (Memref.whole Cert.KernelIdeal.cc0_scratch3 : Memref Cert.KernelIdeal.sig Kind.scVector Space.vmem Cert.KernelIdeal.S67x128 EltTy.f32)
local notation "acV" => (Memref.whole Cert.KernelIdeal.cc0_scratch4 : Memref Cert.KernelIdeal.sig Kind.scVector Space.vmem Cert.KernelIdeal.S16 EltTy.f32)

/-- The tile's row of the result, as the program slices and squeezes it. -/
abbrev ouRow (L : grid0.Coords) : Memref sig .scVector .hbm S16 .f32 :=
  ((ouV).slice (Rect.unit (s := S32x16) (k0_off75 L) S1x16.size (k0_off75_inb L)) (fun _ => rfl)).squeeze S16 squeezes_S1x16_S16

/-- DMA semaphore `k` of the tile. -/
abbrev csem (k : Nat) (hk : k < 10 := by decide) : DmaSem sig := ⟨k, hk⟩
/-- The tile's five DMA cells at zero. -/
abbrev cells0 (d : Dev nD) (L : grid0.Coords) : sProp (MM F) :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0)

variable [FloatOps F]

/-- What three blocks give the lanes of group `g`, added up from zero, -/
def acc3 (X : Nat → Vec F S68x1x2x128 .f32) (W : Nat → Vec F S67x128 .f32) (g : Nat) : FVec F S16 .f32 :=
  addf (addf (addf k0_pay115 (quo (X 0) (W 0) g)) (quo (X 1) (W 1) g)) (quo (X 2) (W 2) g)
/-- and the eight groups' sum: the tile's row of the result. -/
def tot (X : Nat → Vec F S68x1x2x128 .f32) (W : Nat → Vec F S67x128 .f32) : FVec F S16 .f32 :=
  addf (addf (addf (addf (addf (addf (addf (acc3 X W 0) (acc3 X W 1)) (acc3 X W 2)) (acc3 X W 3)) (acc3 X W 4)) (acc3 X W 5)) (acc3 X W 6)) (acc3 X W 7)

/-- The tile's block `r` of the points: what its copy of them carries, -/
abbrev blkC (d : Dev nD) (L : grid0.Coords) (cv : Buf (Elt F) ((cvV).view.loc (VT d L))) (r : Fin 3) : Vec F S68x1x2x128 .f32 :=
  ((cvV).slice (Rect.unit (s := S68x128x2x128) (k0_off1 L (BitVec.ofNat 32 r)) S68x1x2x128.size (k0_off1_inb L r)) (fun _ => rfl)).view.read (Elt F) cv
/-- and of the weights. -/
abbrev blkM (d : Dev nD) (L : grid0.Coords) (mv : Buf (Elt F) ((mvV).view.loc (VT d L))) (r : Fin 3) : Vec F S67x128 .f32 :=
  ((mvV).slice (Rect.unit (s := S67x16384) (k0_off2 L (BitVec.ofNat 32 r)) S67x128.size (k0_off2_inb L r)) (fun _ => rfl)).view.read (Elt F) mv

/-- Eight groups' values before something else, and the type of all that a loop carries. -/
abbrev Eight (F : FTy → Type) (β : Type) := FVec F S16 .f32 × FVec F S16 .f32 × FVec F S16 .f32 × FVec F S16 .f32 × FVec F S16 .f32 × FVec F S16 .f32 × FVec F S16 .f32 × FVec F S16 .f32 × β
abbrev Carried (F : FTy → Type) := Eight F (Eight F (Eight F (FVec F S16 .f32 × FVec F S16 .f32 × FVec F S16 .f32 × FVec F S16 .f32 × FVec F S16 .f32 × FVec F S16 .f32 × FVec F S16 .f32 × FVec F S16 .f32)))

/-- Before trip `n` over the block with points `X` and weights `W`: the buffers hold them, and the first `n` edges are added up. -/
def inv (d : Dev nD) (L : grid0.Coords) (cb : Memref sig .scVector .vmem S68x1x2x128 .f32) (mb : Memref sig .scVector .vmem S67x128 .f32)
    (X : Vec F S68x1x2x128 .f32) (W : Vec F S67x128 .f32) (n : Nat) (acc : Carried F) : sProp (MM F) :=
  iprop(∃ f w, ⌜cb.view.read (Elt F) f = X ∧ mb.view.read (Elt F) w = W ∧ acc = carry X W n⌝
    ∗ (cb.view.loc (VT d L) ↦[cb.view.set]{fullShare} f) ∗ (mb.view.loc (VT d L) ↦[mb.view.set]{fullShare} w))

/-- A trip keeps it. -/
theorem region (d : Dev nD) (L : grid0.Coords) (a2 : Memref sig .scVector .hbm S68x128x2x128 .f32) (h2 : a2.IsWhole)
    (a3 : Memref sig .scVector .hbm S67x16384 .f32) (h3 : a3.IsWhole) (a4 : Memref sig .scVector .hbm S32x16 .f32) (h4 : a4.IsWhole)
    (cb : Memref sig .scVector .vmem S68x1x2x128 .f32) (hcb : cb.IsWhole) (a6 : Memref sig .scVector .vmem S68x1x2x128 .f32) (h6 : a6.IsWhole)
    (mb : Memref sig .scVector .vmem S67x128 .f32) (hmb : mb.IsWhole) (a8 : Memref sig .scVector .vmem S67x128 .f32) (h8 : a8.IsWhole)
    (a9 : Memref sig .scVector .vmem S16 .f32) (h9 : a9.IsWhole) (s0 s1 s2 s3 s4 : DmaSems sig S_)
    (u0 u1 u2 u3 u4 u5 u6 u7 u8 u9 u10 u11 u12 : FVec F S16 .f32) (b0 b1 b2 : BitVec 32)
    (X : Vec F S68x1x2x128 .f32) (W : Vec F S67x128 .f32) (k : Fin k0_t1_loop.trips) (acc : Carried F) :
    inv d L cb mb X W k.val acc
      ⊢ wp frame (wpE (defs₀ (F := F)) 𝒱₀ (VT d L) none) Set.univ
          (k0_t1_body L a2 h2 a3 h3 a4 h4 cb hcb a6 h6 mb hmb a8 h8 a9 h9 s0 s1 s2 s3 s4 u0 u1 u2 u3 u4 u5 u6 u7 u8 u9 u10 u11 u12 b0 b1 b2 k acc)
          (inv d L cb mb X W (k.val + 1)) := by
  unfold inv
  iintro ⟨%f, %w, %h, HC, HM⟩
  obtain ⟨rfl, rfl, rfl⟩ := h
  iapply wp_wand_r
  isplitl [HC HM]
  · iapply (trip d L a2 h2 a3 h3 a4 h4 cb hcb a6 h6 mb hmb a8 h8 a9 h9 s0 s1 s2 s3 s4 u0 u1 u2 u3 u4 u5 u6 u7 u8 u9 u10 u11 u12 b0 b1 b2 f w k)
    isplitl [HC]; · iexact HC
    iexact HM
  iintro %r ⟨%hr, HC, HM⟩
  iexists f; iexists w
  isplitr; · ipureintro; exact ⟨rfl, rfl, hr⟩
  isplitl [HC]; · iexact HC
  iexact HM

/-- What a buffer's load carries after a copy filled it. -/
abbrev ini (cb : Memref sig .scVector .vmem S68x1x2x128 .f32) (v : Vec F S68x1x2x128 .f32) (off : Fin 4 → Nat)
    (h : ∀ a, off a + S1x1x1x16.size a ≤ S68x1x2x128.size a) : FVec F S16 .f32 :=
  shapeCast S16 (cb.view.readCov [⟨Rect.whole S68x1x2x128, v⟩] (Rect.unit (s := S68x1x2x128) off S1x1x1x16.size h).toLoadRect) shapeCasts_S1x1x1x16_S16

theorem ini_eq (d : Dev nD) (L : grid0.Coords) (cb : Memref sig .scVector .vmem S68x1x2x128 .f32) (v : Vec F S68x1x2x128 .f32) (off : Fin 4 → Nat)
    (h : ∀ a, off a + S1x1x1x16.size a ≤ S68x1x2x128.size a) (k c g : Nat) (ho : off = ![k, 0, c, 16 * g]) :
    ini cb v off h = crd v k c g := by
  have e := load_crd (F := F) d L cb (cb.view.writes (Elt F) cb.view.junk [⟨Rect.whole S68x1x2x128, v⟩]) off h k c g ho
  rw [View.read_writes_whole] at e
  exact e

/-- What the loop starts from: the first point's coordinates, and sums of nothing. -/
theorem start (d : Dev nD) (L : grid0.Coords) (cb : Memref sig .scVector .vmem S68x1x2x128 .f32) (v : Vec F S68x1x2x128 .f32) (W : Vec F S67x128 .f32)
    (h : ∀ (c : Fin 2) (g : Fin 8) (a : Fin 4), (![0, 0, c.val, 16 * g.val] : Fin 4 → Nat) a + S1x1x1x16.size a ≤ S68x1x2x128.size a) :
    (eight (fun g => ini cb v ![0, 0, (0 : Fin 2).val, 16 * (Fin.ofNat 8 g).val] (h 0 _)) (eight (fun g => ini cb v ![0, 0, (1 : Fin 2).val, 16 * (Fin.ofNat 8 g).val] (h 1 _))
      (eight (fun _ => k0_pay115) (k0_pay115, k0_pay115, k0_pay115, k0_pay115, k0_pay115, k0_pay115, k0_pay115, k0_pay115))) : Carried F)
      = carry v W 0 := by
  have X : ∀ c g, ini cb v ![0, 0, c.val, 16 * g.val] (h c g) = crd v 0 c g := fun c g => ini_eq d L cb v _ _ 0 c g rfl
  simp only [X]
  rfl

/-- After both copies of a block the loop may begin. -/
theorem inv_start (d : Dev nD) (L : grid0.Coords) (cb : Memref sig .scVector .vmem S68x1x2x128 .f32) (mb : Memref sig .scVector .vmem S67x128 .f32)
    (X : Vec F S68x1x2x128 .f32) (W : Vec F S67x128 .f32) (f : Buf (Elt F) (cb.view.loc (VT d L))) (w : Buf (Elt F) (mb.view.loc (VT d L)))
    (acc : Carried F) (h : acc = carry X W 0) :
    (iprop((cb.view.loc (VT d L) ↦[cb.view.set]{fullShare} cb.view.writes (Elt F) f [⟨Rect.whole S68x1x2x128, X⟩])
        ∗ (mb.view.loc (VT d L) ↦[mb.view.set]{fullShare} mb.view.writes (Elt F) w [⟨Rect.whole S67x128, W⟩])) : sProp (MM F))
      ⊢ inv d L cb mb X W 0 acc := by
  unfold inv
  iintro ⟨HC, HM⟩
  iexists _; iexists _
  isplitr
  · ipureintro
    exact ⟨View.read_writes_whole cb.view f X, View.read_writes_whole mb.view w W, h⟩
  isplitl [HC]; · iexact HC
  iexact HM

set_option maxRecDepth 65536 in
/-- The second loop's trip is the first's at the second pair of buffers, -/
theorem body2 : @k0_t2_body F _ = fun i a2 h2 a3 h3 a4 h4 a5 h5 a6 h6 a7 h7 a8 h8 a9 h9 s0 s1 s2 s3 s4 u _ _ _ _ _ _ _ _ _ _ _ _ _ _ _ _ _ _ _ c0 c1 =>
    k0_t1_body i a2 h2 a3 h3 a4 h4 a6 h6 a5 h5 a8 h8 a7 h7 a9 h9 s0 s1 s2 s3 s4 u u u u u u u u u u u u u c0 c0 c1 := rfl

set_option maxRecDepth 65536 in
/-- and the third's the first's. -/
theorem body3 : @k0_t3_body F _ = fun i a2 h2 a3 h3 a4 h4 a5 h5 a6 h6 a7 h7 a8 h8 a9 h9 s0 s1 s2 s3 s4 u _ _ _ _ _ _ _ _ _ _ c0 =>
    k0_t1_body i a2 h2 a3 h3 a4 h4 a5 h5 a6 h6 a7 h7 a8 h8 a9 h9 s0 s1 s2 s3 s4 u u u u u u u u u u u u u c0 c0 1#32 := rfl

theorem tile_run (d : Dev nD) (L : grid0.Coords) (q : PosShare TreeShare) (O : CellTallies nD τ sig (HIx 1)) (W : Waits sig (HIx 1))
    (cv : Buf (Elt F) ((cvV).view.loc (VT d L))) (mv : Buf (Elt F) ((mvV).view.loc (VT d L))) (o0 : Buf (Elt F) ((ouV).view.loc (VT d L)))
    (f0 : Buf (Elt F) ((c0V).view.loc (VT d L))) (f1 : Buf (Elt F) ((c1V).view.loc (VT d L)))
    (g0 : Buf (Elt F) ((m0V).view.loc (VT d L))) (g1 : Buf (Elt F) ((m1V).view.loc (VT d L))) (a0 : Buf (Elt F) ((acV).view.loc (VT d L))) :
    (iprop(Transfers.MayWaits (VT d L) (default : HIx 1) O
        ∗ ((cvV).view.loc (VT d L) ↦{Transfers.shareTokN q 0} cv)
        ∗ ((cvV).view.loc (VT d L) ↦{Transfers.shareTokN q 1} cv)
        ∗ ((mvV).view.loc (VT d L) ↦{Transfers.shareTokN q 0} mv)
        ∗ ((mvV).view.loc (VT d L) ↦{Transfers.shareTokN q 1} mv)
        ∗ ((ouRow L).view.loc (VT d L) ↦[(ouRow L).view.set]{fullShare} o0)
        ∗ ((c0V).view.loc (VT d L) ↦[(c0V).view.set]{fullShare} f0)
        ∗ ((c1V).view.loc (VT d L) ↦[(c1V).view.set]{fullShare} f1)
        ∗ ((m0V).view.loc (VT d L) ↦[(m0V).view.set]{fullShare} g0)
        ∗ ((m1V).view.loc (VT d L) ↦[(m1V).view.set]{fullShare} g1)
        ∗ ((acV).view.loc (VT d L) ↦[(acV).view.set]{fullShare} a0)
        ∗ cells0 d L ∗ owes (VT d L) O W) : sProp (MM F))
      ⊢ wp frame (wpE (defs₀ (F := F)) 𝒱₀ (VT d L) none) Set.univ
          (cc0__sc_body L cvV (Memref.isWhole_whole _) mvV (Memref.isWhole_whole _) ouV (Memref.isWhole_whole _)
            c0V (Memref.isWhole_whole _) c1V (Memref.isWhole_whole _) m0V (Memref.isWhole_whole _) m1V (Memref.isWhole_whole _)
            acV (Memref.isWhole_whole _) cc0_scratch5 cc0_scratch6 cc0_scratch7 cc0_scratch8 cc0_scoped0)
          fun _ => iprop(((cvV).view.loc (VT d L) ↦{Transfers.shareTokN q 0} cv)
            ∗ ((cvV).view.loc (VT d L) ↦{Transfers.shareTokN q 1} cv)
            ∗ ((mvV).view.loc (VT d L) ↦{Transfers.shareTokN q 0} mv)
            ∗ ((mvV).view.loc (VT d L) ↦{Transfers.shareTokN q 1} mv)
            ∗ (∃ f, ⌜(ouRow L).view.read (Elt F) f = tot (fun r => blkC d L cv (Fin.ofNat 3 r)) (fun r => blkM d L mv (Fin.ofNat 3 r))⌝ ∗ ((ouRow L).view.loc (VT d L) ↦[(ouRow L).view.set]{fullShare} f))
            ∗ (∃ f, (c0V).view.loc (VT d L) ↦[(c0V).view.set]{fullShare} f)
            ∗ (∃ f, (c1V).view.loc (VT d L) ↦[(c1V).view.set]{fullShare} f)
            ∗ (∃ f, (m0V).view.loc (VT d L) ↦[(m0V).view.set]{fullShare} f)
            ∗ (∃ f, (m1V).view.loc (VT d L) ↦[(m1V).view.set]{fullShare} f)
            ∗ (∃ f, (acV).view.loc (VT d L) ↦[(acV).view.set]{fullShare} f)
            ∗ cells0 d L ∗ ∃ W', ⌜∀ p ∈ W', p ∈ W ∨ p.2 = none⌝ ∗ owes (VT d L) O W') := by
  iintro ⟨#Hmw, HV0, HV1, HM0, HM1, HO, HC0, HC1, HW0, HW1, HA, ⟨Hs0, Hs1, Hs2, Hs3, Hs4⟩, HOw⟩
  sl_unfold [cc0__sc_body]
  sl_exec
  sl_for (inv d L c0V m0V (blkC d L cv 0) (blkM d L mv 0)) $$ [HC0 HW0]
  case region =>
    intro k acc
    sl_unfold_run_names
    have e := region (F := F) d L cvV (Memref.isWhole_whole _) mvV (Memref.isWhole_whole _) ouV (Memref.isWhole_whole _)
            c0V (Memref.isWhole_whole _) c1V (Memref.isWhole_whole _) m0V (Memref.isWhole_whole _) m1V (Memref.isWhole_whole _)
            acV (Memref.isWhole_whole _) cc0_scratch5 cc0_scratch6 cc0_scratch7 cc0_scratch8 cc0_scoped0
    with_reducible apply e
  · iapply (inv_start d L c0V m0V (blkC d L cv 0) (blkM d L mv 0) _ _ _ (by sl_unfold_run_names; exact start d L c0V _ _ (by decide)))
    sl_unfold_run_names
    isplitl [HC0]; · iexact HC0
    iexact HW0
  iintro %acc HI
  unfold inv
  icases HI with ⟨%f, %w, %h, HC0, HW0⟩
  obtain ⟨-, -, rfl⟩ := h
  sl_exec
  sl_for (inv d L c1V m1V (blkC d L cv 1) (blkM d L mv 1)) $$ [HC1 HW1]
  case region =>
    intro k acc
    sl_unfold_run_names
    simp only [body2]
    have e := region (F := F) d L cvV (Memref.isWhole_whole _) mvV (Memref.isWhole_whole _) ouV (Memref.isWhole_whole _)
            c1V (Memref.isWhole_whole _) c0V (Memref.isWhole_whole _) m1V (Memref.isWhole_whole _) m0V (Memref.isWhole_whole _)
            acV (Memref.isWhole_whole _) cc0_scratch5 cc0_scratch6 cc0_scratch7 cc0_scratch8 cc0_scoped0
    with_reducible apply e
  · iapply (inv_start d L c1V m1V (blkC d L cv 1) (blkM d L mv 1) _ _ _ (by sl_unfold_run_names; exact start d L c1V _ _ (by decide)))
    sl_unfold_run_names
    isplitl [HC1]; · iexact HC1
    iexact HW1
  iintro %acc HI
  unfold inv
  icases HI with ⟨%f1', %w1', %h, HC1, HW1⟩
  obtain ⟨-, -, rfl⟩ := h
  sl_exec
  sl_for (inv d L c0V m0V (blkC d L cv 2) (blkM d L mv 2)) $$ [HC0 HW0]
  case region =>
    intro k acc
    sl_unfold_run_names
    simp only [body3]
    have e := region (F := F) d L cvV (Memref.isWhole_whole _) mvV (Memref.isWhole_whole _) ouV (Memref.isWhole_whole _)
            c0V (Memref.isWhole_whole _) c1V (Memref.isWhole_whole _) m0V (Memref.isWhole_whole _) m1V (Memref.isWhole_whole _)
            acV (Memref.isWhole_whole _) cc0_scratch5 cc0_scratch6 cc0_scratch7 cc0_scratch8 cc0_scoped0
    with_reducible apply e
  · iapply (inv_start d L c0V m0V (blkC d L cv 2) (blkM d L mv 2) _ _ _ (by sl_unfold_run_names; exact start d L c0V _ _ (by decide)))
    sl_unfold_run_names
    isplitl [HC0]; · iexact HC0
    iexact HW0
  iintro %acc HI
  unfold inv
  icases HI with ⟨%f2', %w2', %h, HC0, HW0⟩
  obtain ⟨-, -, rfl⟩ := h
  sl_exec
  sl_step
  isplitl [HV0]; · iexact HV0
  isplitl [HV1]; · iexact HV1
  isplitl [HM0]; · iexact HM0
  isplitl [HM1]; · iexact HM1
  isplitl [HO]
  · iexists _
    isplitr
    rotate_left
    · iexact HO
    · ipureintro
      refine (View.read_writes_whole (ouRow L).view o0 _).trans ?_
      sl_unfold_run_names
      have t1 : Scf.trips k0_t1_loop.lb k0_t1_loop.ub k0_t1_loop.st = 67 := by decide
      have t2 : Scf.trips k0_t2_loop.lb k0_t2_loop.ub k0_t2_loop.st = 67 := by decide
      have t3 : Scf.trips k0_t3_loop.lb k0_t3_loop.ub k0_t3_loop.st = 67 := by decide
      simp only [t1, t2, t3]
      refine (View.read_writes_full (acV).view a0 _ _ []).trans ?_
      rfl
  isplitl [HC0]; · iexists _; iexact HC0
  isplitl [HC1]; · iexists _; iexact HC1
  isplitl [HW0]; · iexists _; iexact HW0
  isplitl [HW1]; · iexists _; iexact HW1
  isplitl [HA]; · iexists _; iexact HA
  isplitl [Hs0 Hs1 Hs2 Hs3 Hs4]
  · isplitl [Hs0]; · iexact Hs0
    isplitl [Hs1]; · iexact Hs1
    isplitl [Hs2]; · iexact Hs2
    isplitl [Hs3]; · iexact Hs3
    iexact Hs4
  iexists _; isplitr
  rotate_left
  · iexact HOw
  · ipureintro
    intro p hp
    simp only [Finset.mem_insert] at hp
    rcases hp with rfl | rfl | rfl | rfl | rfl | rfl | rfl | hp
    all_goals first | exact .inr rfl | exact .inl hp

end Cert.Proof.Wing

end
-- ==== Proof.Tile.lean ====
/-
  The tiles' obligation at the launch: what the one SparseCore call hands each tile (a read share of the points and of
  the weights, the tile's row of the result) and what it takes back (the row at its value), how the TensorCore's whole
  arrays are those pieces, and the body's run from a tile's pieces.
-/
module

public import proofs.«01_k».proof.Proof.TileRun

@[expose] public section

noncomputable section

namespace Cert.Proof.Wing

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "cvV" => (Memref.whole Cert.KernelIdeal.main_v1_scv : Memref Cert.KernelIdeal.sig Kind.scVector Space.hbm Cert.KernelIdeal.S68x128x2x128 EltTy.f32)
local notation "mvV" => (Memref.whole Cert.KernelIdeal.main_v2_scv : Memref Cert.KernelIdeal.sig Kind.scVector Space.hbm Cert.KernelIdeal.S67x16384 EltTy.f32)
local notation "ouV" => (Memref.whole Cert.KernelIdeal.main_v3_scv : Memref Cert.KernelIdeal.sig Kind.scVector Space.hbm Cert.KernelIdeal.S32x16 EltTy.f32)
local notation "c0V" => (Memref.whole Cert.KernelIdeal.cc0_scratch0 : Memref Cert.KernelIdeal.sig Kind.scVector Space.vmem Cert.KernelIdeal.S68x1x2x128 EltTy.f32)
local notation "c1V" => (Memref.whole Cert.KernelIdeal.cc0_scratch1 : Memref Cert.KernelIdeal.sig Kind.scVector Space.vmem Cert.KernelIdeal.S68x1x2x128 EltTy.f32)
local notation "m0V" => (Memref.whole Cert.KernelIdeal.cc0_scratch2 : Memref Cert.KernelIdeal.sig Kind.scVector Space.vmem Cert.KernelIdeal.S67x128 EltTy.f32)
local notation "m1V" => (Memref.whole Cert.KernelIdeal.cc0_scratch3 : Memref Cert.KernelIdeal.sig Kind.scVector Space.vmem Cert.KernelIdeal.S67x128 EltTy.f32)
local notation "acV" => (Memref.whole Cert.KernelIdeal.cc0_scratch4 : Memref Cert.KernelIdeal.sig Kind.scVector Space.vmem Cert.KernelIdeal.S16 EltTy.f32)

/-! ## The arrays and the tiles' pieces of them -/

abbrev cvLoc (d : Dev nD) : Loc nD τ sig := (SparseCore.T d).loc main_v1
abbrev mvLoc (d : Dev nD) : Loc nD τ sig := (SparseCore.T d).loc main_v2
abbrev oLoc (d : Dev nD) : Loc nD τ sig := (SparseCore.T d).loc main_v3

/-- The tile of SparseCore `p.1` and subcore `p.2`, as the program's grid names it, -/
def co (p : Fin 2 × Fin 16) : grid0.Coords :=
  fun | 0 => p.1 | 1 => p.2 | ⟨_ + 2, h⟩ => absurd h (Nat.not_lt.2 (Nat.le_add_left _ _))
/-- its place among the 32 shares the two inputs are dealt in, -/
def pl : Fin 2 × Fin 16 ≃ Fin 32 := finProdFinEquiv
/-- and its row of the result. -/
abbrev rowSet (p : Fin 2 × Fin 16) : Finset S32x16.Idx := (ouRow (co p)).view.set

theorem rowSet_eq (p : Fin 2 × Fin 16) : rowSet p = (Rect.unit (s := S32x16) (k0_off75 (co p)) S1x16.size (k0_off75_inb (co p))).set := by
  show (((ouV).view.slice (Rect.unit (s := S32x16) (k0_off75 (co p)) S1x16.size (k0_off75_inb (co p)))).reshape S16 squeezes_S1x16_S16.numel_eq).set = _
  rw [View.set_reshape]
  exact View.set_slice_whole _ _

/-- Row `2 s + c` is tile `(c, s)`'s. -/
theorem mem_rowSet (p : Fin 2 × Fin 16) (x : S32x16.Idx) : x ∈ rowSet p ↔ (x 0).val = 2 * p.2.val + p.1.val := by
  rw [rowSet_eq, Rect.mem_set_unit, k0_off75_eq]
  have h1 : (x 1).val < 16 := (x 1).isLt
  constructor
  · intro h
    have h0 := h 0
    change 2 * p.2.val + p.1.val ≤ (x 0).val ∧ (x 0).val < 2 * p.2.val + p.1.val + 1 at h0
    omega
  · intro h a
    match a with
    | 0 => show 2 * p.2.val + p.1.val ≤ (x 0).val ∧ (x 0).val < 2 * p.2.val + p.1.val + 1; omega
    | 1 => show 0 ≤ (x 1).val ∧ (x 1).val < 0 + 16; omega

theorem rows_disjoint : ∀ p ∈ (Finset.univ : Finset (Fin 2 × Fin 16)), ∀ p' ∈ (Finset.univ : Finset (Fin 2 × Fin 16)), p ≠ p' → Disjoint (rowSet p) (rowSet p') := by
  intro p _ p' _ h
  refine Finset.disjoint_left.mpr fun x hx hx' => h ?_
  rw [mem_rowSet] at hx hx'
  have := p.1.isLt; have := p'.1.isLt
  exact Prod.ext (Fin.ext (by omega)) (Fin.ext (by omega))

theorem rows_cover : (Finset.univ : Finset (Fin 2 × Fin 16)).biUnion rowSet = Finset.univ := by
  refine Finset.eq_univ_of_forall fun x => Finset.mem_biUnion.mpr ?_
  have h0 : (x 0).val < 32 := (x 0).isLt
  exact ⟨(⟨(x 0).val % 2, by omega⟩, ⟨(x 0).val / 2, by omega⟩), Finset.mem_univ _, (mem_rowSet _ x).mpr (by show _ = 2 * ((x 0).val / 2) + (x 0).val % 2; omega)⟩

variable [FloatOps F]

/-- The tile a row of the result belongs to. -/
def tileOf (x : S32x16.Idx) : Fin 2 × Fin 16 := (Fin.ofNat 2 (x 0).val, Fin.ofNat 16 ((x 0).val / 2))

/-- and the lane. -/
def laneOf (x : S32x16.Idx) : S16.Idx
  | 0 => ⟨(x 1).val, (x 1).isLt⟩

/-- What the call leaves in its result. -/
def scOut (d : Dev nD) (cv : Buf (Elt F) (cvLoc d)) (mv : Buf (Elt F) (mvLoc d)) : Buf (Elt F) (oLoc d) := fun x =>
  tot (fun r => blkC d (co (tileOf x)) cv (Fin.ofNat 3 r)) (fun r => blkM d (co (tileOf x)) mv (Fin.ofNat 3 r)) (laneOf x)

/-- A row read at its value holds it. -/
theorem row_val (d : Dev nD) (p : Fin 2 × Fin 16) (cv : Buf (Elt F) (cvLoc d)) (mv : Buf (Elt F) (mvLoc d)) (f : Buf (Elt F) (oLoc d))
    (h : (ouRow (co p)).view.read (Elt F) f = tot (fun r => blkC d (co p) cv (Fin.ofNat 3 r)) (fun r => blkM d (co p) mv (Fin.ofNat 3 r))) :
    ∀ x ∈ rowSet p, f x = scOut d cv mv x := by
  intro x hx
  have hx' := (mem_rowSet p x).mp hx
  obtain ⟨l, -, rfl⟩ := Finset.mem_map.mp hx
  have e1 : ((ouRow (co p)).view.emb l 1).val = (l 0).val := by
    show (k0_off75 (co p)) 1 + 1 * (Shape.reshapeEquiv (s := S1x16) (s' := S16) squeezes_S1x16_S16.numel_eq l 1).val = _
    rw [k0_off75_eq]
    have := lane2 l
    show 0 + 1 * _ = _
    omega
  have ht : tileOf ((ouRow (co p)).view.emb l) = p := by
    have := p.1.isLt; have := p.2.isLt
    exact Prod.ext (Fin.ext (by show ((ouRow (co p)).view.emb l 0).val % 2 = _; omega)) (Fin.ext (by show (((ouRow (co p)).view.emb l 0).val / 2) % 16 = _; omega))
  have hl : laneOf ((ouRow (co p)).view.emb l) = l := funext fun | 0 => Fin.ext e1
  unfold scOut
  rw [ht, hl, ← h]
  rfl

/-- What tile `p` is handed, -/
def goP (d : Dev nD) (cv : Buf (Elt F) (cvLoc d)) (mv : Buf (Elt F) (mvLoc d)) (o : Buf (Elt F) (oLoc d)) (p : Fin 2 × Fin 16) : sProp (MM F) :=
  iprop((cvLoc d ↦{Transfers.shareTok fullShare 32 (pl p)} cv) ∗ (mvLoc d ↦{Transfers.shareTok fullShare 32 (pl p)} mv) ∗ (oLoc d ↦[rowSet p]{fullShare} o))

/-- The 32 shares of an array are the tiles'. -/
theorem toks {ℓ : Loc nD τ sig} (f : Buf (Elt F) ℓ) :
    (bigSep Finset.univ fun i : Fin 32 => (ℓ ↦{Transfers.shareTok fullShare 32 i} f : sProp (MM F)))
      = bigSep Finset.univ fun p : Fin 2 × Fin 16 => ℓ ↦{Transfers.shareTok fullShare 32 (pl p)} f :=
  bigSep_univ_equiv pl _

/-- The three arrays whole are the tiles' pieces and what stays of the first two. -/
theorem deal (d : Dev nD) (cv : Buf (Elt F) (cvLoc d)) (mv : Buf (Elt F) (mvLoc d)) (o : Buf (Elt F) (oLoc d)) :
    (iprop((cvLoc d ↦{fullShare} cv) ∗ (mvLoc d ↦{fullShare} mv) ∗ (oLoc d ↦{fullShare} o)) : sProp (MM F))
      ⊣⊢ iprop(((cvLoc d ↦{Transfers.shareDrop fullShare 32} cv) ∗ (mvLoc d ↦{Transfers.shareDrop fullShare 32} mv))
        ∗ bigSep Finset.univ fun p : Fin 2 × Fin 16 => goP d cv mv o p) := by
  have ho : (oLoc d ↦{fullShare} o : sProp (MM F)) = bigSep Finset.univ fun p => oLoc d ↦[rowSet p]{fullShare} o := by
    rw [← pointsTo_biUnion Finset.univ (ℓ := oLoc d) rowSet rows_disjoint, rows_cover]
  unfold goP
  rw [bigSep_sep', bigSep_sep', ho, ← toks, ← toks]
  constructor
  · iintro ⟨Hc, Hm, Ho⟩
    ihave Hc' := (Transfers.pointsTo_toks_split (ℓ := cvLoc d) (S := Finset.univ) (f := cv) fullShare 32) $$ Hc
    ihave Hm' := (Transfers.pointsTo_toks_split (ℓ := mvLoc d) (S := Finset.univ) (f := mv) fullShare 32) $$ Hm
    icases Hc' with ⟨Hc, Hcs⟩
    icases Hm' with ⟨Hm, Hms⟩
    isplitl [Hc Hm]
    · isplitl [Hc]; · iexact Hc
      iexact Hm
    isplitl [Hcs]; · iexact Hcs
    isplitl [Hms]; · iexact Hms
    iexact Ho
  · iintro ⟨⟨Hc, Hm⟩, Hcs, Hms, Ho⟩
    isplitl [Hc Hcs]
    · iapply (Transfers.pointsTo_toks_join (ℓ := cvLoc d) (S := Finset.univ) (f := cv) fullShare 32)
      isplitl [Hc]; · iexact Hc
      iexact Hcs
    isplitl [Hm Hms]
    · iapply (Transfers.pointsTo_toks_join (ℓ := mvLoc d) (S := Finset.univ) (f := mv) fullShare 32)
      isplitl [Hm]; · iexact Hm
      iexact Hms
    iexact Ho

/-! ## What the handshakes carry -/

variable (cv : (d : Dev nD) → Buf (Elt F) (cvLoc d)) (mv : (d : Dev nD) → Buf (Elt F) (mvLoc d)) (o : (d : Dev nD) → Buf (Elt F) (oLoc d))

theorem nSub_zero : (K (F := F)).nSub 0 = 16 := rfl
theorem nCore_zero : (K (F := F)).nCore 0 = 2 := rfl

/-- Tile `i` of SparseCore `c` of the call. -/
abbrev pr (c : Fin ((K (F := F)).nCore 0)) (i : Fin ((K (F := F)).nSub 0)) : Fin 2 × Fin 16 := (Fin.cast nCore_zero c, Fin.cast nSub_zero i)

/-- Each tile its piece, the row coming back at its value; each SparseCore its tiles' pieces. -/
def P : (K (F := F)).Pay (nD := nD) (Val := Elt F) (Name := ℕ) (U := UU) where
  st := fun q d c => match q with | 0 => bigSep Finset.univ fun i => goP d (cv d) (mv d) (o d) (pr c i)
  dn := fun q d c => match q with | 0 => bigSep Finset.univ fun i => goP d (cv d) (mv d) (scOut d (cv d) (mv d)) (pr c i)
  go := fun q d c i => match q with | 0 => goP d (cv d) (mv d) (o d) (pr c i)
  td := fun q d c i => match q with | 0 => goP d (cv d) (mv d) (scOut d (cv d) (mv d)) (pr c i)
  x := fun _ _ => iprop(emp)

instance goP_storable (d : Dev nD) (cv : Buf (Elt F) (cvLoc d)) (mv : Buf (Elt F) (mvLoc d)) (o : Buf (Elt F) (oLoc d)) (p : Fin 2 × Fin 16) :
    BI.Storable (upEmb : UEmb _ (MM F)) (goP d cv mv o p) := by unfold goP; infer_instance

instance P_storable : (P (F := F) cv mv o).IsStorable where
  st q d c := match q with
    | 0 => (inferInstance : BI.Storable (upEmb : UEmb _ (MM F)) (bigSep Finset.univ fun i => goP d (cv d) (mv d) (o d) (pr c i)))
  dn q d c := match q with
    | 0 => (inferInstance : BI.Storable (upEmb : UEmb _ (MM F)) (bigSep Finset.univ fun i => goP d (cv d) (mv d) (scOut d (cv d) (mv d)) (pr c i)))
  go q d c i := match q with | 0 => goP_storable d _ _ _ _
  td q d c i := match q with | 0 => goP_storable d _ _ _ _

theorem vecSplit : (K (F := F)).VecSplit' (P cv mv o) 0 := by
  intro d c
  show (bigSep Finset.univ fun i => goP d (cv d) (mv d) (o d) (pr c i)) ⊢ |={Set.univ}=> iprop(
      (bigSep Finset.univ fun i : Fin ((K (F := F)).nSub 0) => goP d (cv d) (mv d) (o d) (pr c i))
      ∗ ((bigSep Finset.univ fun i : Fin ((K (F := F)).nSub 0) => goP d (cv d) (mv d) (scOut d (cv d) (mv d)) (pr c i))
          -∗ bigSep Finset.univ fun i => goP d (cv d) (mv d) (scOut d (cv d) (mv d)) (pr c i)))
  iintro H; imodintro
  isplitl [H]; · iexact H
  iintro H; iexact H

/-- The two SparseCores' pieces are all the tiles'. -/
theorem cores (Φ : Fin 2 × Fin 16 → sProp (MM F)) :
    (bigSep Finset.univ fun c : Fin ((K (F := F)).nCore 0) => bigSep Finset.univ fun i : Fin ((K (F := F)).nSub 0) => Φ (pr c i))
      = bigSep Finset.univ Φ := (bigSep_univ_prod Φ).symm

end Cert.Proof.Wing

end
-- ==== Proof.TileObl.lean ====
/-
  What a subcore owns at the launch, and the tiles' obligation: the body's run from a tile's pieces to its row at its value.
-/
module

public import proofs.«01_k».proof.Proof.Tile

@[expose] public section

noncomputable section

namespace Cert.Proof.Wing

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "cvV" => (Memref.whole Cert.KernelIdeal.main_v1_scv : Memref Cert.KernelIdeal.sig Kind.scVector Space.hbm Cert.KernelIdeal.S68x128x2x128 EltTy.f32)
local notation "mvV" => (Memref.whole Cert.KernelIdeal.main_v2_scv : Memref Cert.KernelIdeal.sig Kind.scVector Space.hbm Cert.KernelIdeal.S67x16384 EltTy.f32)
local notation "ouV" => (Memref.whole Cert.KernelIdeal.main_v3_scv : Memref Cert.KernelIdeal.sig Kind.scVector Space.hbm Cert.KernelIdeal.S32x16 EltTy.f32)
local notation "c0V" => (Memref.whole Cert.KernelIdeal.cc0_scratch0 : Memref Cert.KernelIdeal.sig Kind.scVector Space.vmem Cert.KernelIdeal.S68x1x2x128 EltTy.f32)
local notation "c1V" => (Memref.whole Cert.KernelIdeal.cc0_scratch1 : Memref Cert.KernelIdeal.sig Kind.scVector Space.vmem Cert.KernelIdeal.S68x1x2x128 EltTy.f32)
local notation "m0V" => (Memref.whole Cert.KernelIdeal.cc0_scratch2 : Memref Cert.KernelIdeal.sig Kind.scVector Space.vmem Cert.KernelIdeal.S67x128 EltTy.f32)
local notation "m1V" => (Memref.whole Cert.KernelIdeal.cc0_scratch3 : Memref Cert.KernelIdeal.sig Kind.scVector Space.vmem Cert.KernelIdeal.S67x128 EltTy.f32)
local notation "acV" => (Memref.whole Cert.KernelIdeal.cc0_scratch4 : Memref Cert.KernelIdeal.sig Kind.scVector Space.vmem Cert.KernelIdeal.S16 EltTy.f32)

/-! ## What a subcore owns -/

/-- The five DMA cells the body names, as a family. -/
abbrev dcell (d : Dev nD) (L : grid0.Coords) (k : Fin 5) : GSem nD τ sig := (VT d L, .dma (csem k.val (Nat.lt_trans k.isLt (by decide))))

theorem dcell_mem (d : Dev nD) (L : grid0.Coords) (k : Fin 5) : dcell d L k ∈ ownCells (VT d L) :=
  mem_ownCells.mpr ⟨rfl, (show ∀ k : Fin 5, (SemLoc.dma (csem k.val (Nat.lt_trans k.isLt (by decide))) : SemLoc sig).isScoped .scVector = true by decide) k⟩

/-- The subcore's cells at zero are those five and the rest, -/
theorem ownSems0_V (d : Dev nD) (L : grid0.Coords) :
    (ownSems0 (VT d L) : sProp (MM F))
      = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The five buffers the body names, as a family. -/
def scr : Fin 5 → Ref sig .scVector
  | 0 => cc0_scratch0 | 1 => cc0_scratch1 | 2 => cc0_scratch2 | 3 => cc0_scratch3 | 4 => cc0_scratch4
theorem scr_injective : Function.Injective scr := by decide

abbrev sbuf (L : grid0.Coords) (k : Fin 5) : DevRef τ sig := (Proc.scVector (cV L) (jV L)).devRef (scr k)

theorem sbuf_mem (L : grid0.Coords) (k : Fin 5) : sbuf L k ∈ ownRefs (τ := τ) (Proc.scVector (cV L) (jV L)) := by
  refine SparseCore.Cfg.mem_ownRefs_of_owner (p := Proc.scVector (cV L) (jV L)) ?_
  fin_cases k <;> rfl

/-- and its buffers, each at some contents, are those five and the rest. -/
theorem ownBufs_V (d : Dev nD) (L : grid0.Coords) :
    (ownBufs (VT d L) : sProp (MM F))
      = iprop(((∃ f, (VT d L).loc cc0_scratch0 ↦{fullShare} f) ∗ (∃ f, (VT d L).loc cc0_scratch1 ↦{fullShare} f) ∗ (∃ f, (VT d L).loc cc0_scratch2 ↦{fullShare} f)
            ∗ (∃ f, (VT d L).loc cc0_scratch3 ↦{fullShare} f) ∗ (∃ f, (VT d L).loc cc0_scratch4 ↦{fullShare} f))
          ∗ bigSep ((ownRefs (τ := τ) (Proc.scVector (cV L) (jV L))) \ Finset.univ.image (sbuf L)) fun b => iprop(∃ f, ((d, b) : Loc nD τ sig) ↦{fullShare} f)) := by
  unfold SparseCore.Cfg.ownBufs
  rw [SparseCore.bigSep_sdiff_split' (t := Finset.univ.image (sbuf L)) (Finset.image_subset_iff.mpr fun k _ => sbuf_mem L k),
    SparseCore.bigSep_image_of_injOn (fun a _ b _ h => scr_injective (Proc.devRef_injective _ h))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-! ## The body from a tile's pieces -/

theorem pts_c0 (d : Dev nD) (L : grid0.Coords) (f : Buf (Elt F) ((VT d L).loc cc0_scratch0)) :
    ((c0V).view.loc (VT d L) ↦[(c0V).view.set]{fullShare} f : sProp (MM F)) = (VT d L).loc cc0_scratch0 ↦{fullShare} f := by rw [View.set_whole]
theorem pts_c1 (d : Dev nD) (L : grid0.Coords) (f : Buf (Elt F) ((VT d L).loc cc0_scratch1)) :
    ((c1V).view.loc (VT d L) ↦[(c1V).view.set]{fullShare} f : sProp (MM F)) = (VT d L).loc cc0_scratch1 ↦{fullShare} f := by rw [View.set_whole]
theorem pts_m0 (d : Dev nD) (L : grid0.Coords) (f : Buf (Elt F) ((VT d L).loc cc0_scratch2)) :
    ((m0V).view.loc (VT d L) ↦[(m0V).view.set]{fullShare} f : sProp (MM F)) = (VT d L).loc cc0_scratch2 ↦{fullShare} f := by rw [View.set_whole]
theorem pts_m1 (d : Dev nD) (L : grid0.Coords) (f : Buf (Elt F) ((VT d L).loc cc0_scratch3)) :
    ((m1V).view.loc (VT d L) ↦[(m1V).view.set]{fullShare} f : sProp (MM F)) = (VT d L).loc cc0_scratch3 ↦{fullShare} f := by rw [View.set_whole]
theorem pts_ac (d : Dev nD) (L : grid0.Coords) (f : Buf (Elt F) ((VT d L).loc cc0_scratch4)) :
    ((acV).view.loc (VT d L) ↦[(acV).view.set]{fullShare} f : sProp (MM F)) = (VT d L).loc cc0_scratch4 ↦{fullShare} f := by rw [View.set_whole]

/-- A share of an array as what stays with the tile and two read tokens: two copies out of it fly at once. -/
theorem twoToks {ℓ : Loc nD τ sig} (q : PosShare TreeShare) (f : Buf (Elt F) ℓ) :
    (ℓ ↦{q} f : sProp (MM F)) ⊣⊢ iprop((ℓ ↦{Transfers.shareDrop q 2} f) ∗ (ℓ ↦{Transfers.shareTokN q 0} f) ∗ (ℓ ↦{Transfers.shareTokN q 1} f)) := by
  have h : (ℓ ↦{q} f : sProp (MM F)) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

variable [FloatOps F]

/-- The task on tile `p`, from what the launch deals it to what it hands back. -/
theorem tile_body (d : Dev nD) (p : Fin 2 × Fin 16) (O : CellTallies nD τ sig (HIx 1)) (W : Waits sig (HIx 1)) (hO : ∀ g, O g none = 0)
    (cv : Buf (Elt F) (cvLoc d)) (mv : Buf (Elt F) (mvLoc d)) (o : Buf (Elt F) (oLoc d)) :
    (iprop(levAts (K (F := F)).L (K (F := F)).lev ∗ emp ∗ goP d cv mv o p
        ∗ scopedBufs (VT d (co p)) ∗ scopedSems0 (VT d (co p)) ∗ owes (VT d (co p)) O W) : sProp (MM F))
      ⊢ wp frame (wpE (defs₀ (F := F)) 𝒱₀ (VT d (co p)) none) Set.univ
          (cc0__sc_body (co p) cvV (Memref.isWhole_whole _) mvV (Memref.isWhole_whole _) ouV (Memref.isWhole_whole _)
            c0V (Memref.isWhole_whole _) c1V (Memref.isWhole_whole _) m0V (Memref.isWhole_whole _) m1V (Memref.isWhole_whole _)
            acV (Memref.isWhole_whole _) cc0_scratch5 cc0_scratch6 cc0_scratch7 cc0_scratch8 cc0_scoped0)
          fun _ => iprop(goP d cv mv (scOut d cv mv) p ∗ scopedBufs (VT d (co p)) ∗ scopedSems0 (VT d (co p))
            ∗ ∃ W', ⌜∀ x ∈ W', x ∈ W ∨ x.2 = none ∨ x.2 = some (0 : Fin 1)⌝ ∗ owes (VT d (co p)) O W') := by
  rw [(K (F := F)).scopedBufs_V facts d (cV (co p)) (jV (co p)), SparseCore.Cfg.scopedSems0_V (Val := Elt F) d (cV (co p)) (jV (co p)), ownSems0_V, ownBufs_V]
  unfold goP
  iintro ⟨#Hlv, -, ⟨Hc, Hm, Ho⟩, ⟨⟨⟨%f0, H0⟩, ⟨%f1, H1⟩, ⟨%g0, H2⟩, ⟨%g1, H3⟩, ⟨%a0, H4⟩⟩, Hbufs⟩, ⟨HC, Hsems⟩, HO⟩
  ihave Hmw := (show levAts (K (F := F)).L (K (F := F)).lev ⊢ Transfers.MayWaits (VT d (co p)) (default : HIx 1) O from
    (K (F := F)).mayWaits_none (thr := VT d (co p)) hO) $$ Hlv
  ihave H0' := (Entails.of_eq (pts_c0 (F := F) d (co p) _).symm) $$ H0
  ihave H1' := (Entails.of_eq (pts_c1 (F := F) d (co p) _).symm) $$ H1
  ihave H2' := (Entails.of_eq (pts_m0 (F := F) d (co p) _).symm) $$ H2
  ihave H3' := (Entails.of_eq (pts_m1 (F := F) d (co p) _).symm) $$ H3
  ihave H4' := (Entails.of_eq (pts_ac (F := F) d (co p) _).symm) $$ H4
  ihave Hc' := (twoToks (F := F) (Transfers.shareTok fullShare 32 (pl p)) cv).1 $$ Hc
  ihave Hm' := (twoToks (F := F) (Transfers.shareTok fullShare 32 (pl p)) mv).1 $$ Hm
  icases Hc' with ⟨Hcr, Hc0, Hc1⟩
  icases Hm' with ⟨Hmr, Hm0, Hm1⟩
  iapply (wp_wand_r Idealize.ShloMosaic.frame (wpE (defs₀ (F := F)) 𝒱₀ (VT d (co p)) none) Set.univ)
  isplitl [Hc0 Hc1 Hm0 Hm1 Ho H0' H1' H2' H3' H4' HC HO]
  · iapply (tile_run d (co p) (Transfers.shareTok fullShare 32 (pl p)) O W cv mv o f0 f1 g0 g1 a0)
    isplitr; · iexact Hmw
    isplitl [Hc0]; · iexact Hc0
    isplitl [Hc1]; · iexact Hc1
    isplitl [Hm0]; · iexact Hm0
    isplitl [Hm1]; · iexact Hm1
    isplitl [Ho]; · iexact Ho
    isplitl [H0']; · iexact H0'
    isplitl [H1']; · iexact H1'
    isplitl [H2']; · iexact H2'
    isplitl [H3']; · iexact H3'
    isplitl [H4']; · iexact H4'
    isplitl [HC]; · iexact HC
    iexact HO
  iintro %_ ⟨Hc0, Hc1, Hm0, Hm1, ⟨%f, %hf, Ho⟩, ⟨%f0', H0'⟩, ⟨%f1', H1'⟩, ⟨%g0', H2'⟩, ⟨%g1', H3'⟩, ⟨%a0', H4'⟩, HC, ⟨%W', %hW', HO⟩⟩
  isplitl [Hcr Hc0 Hc1 Hmr Hm0 Hm1 Ho]
  · isplitl [Hcr Hc0 Hc1]
    · iapply (twoToks (F := F) (Transfers.shareTok fullShare 32 (pl p)) cv).2
      isplitl [Hcr]; · iexact Hcr
      isplitl [Hc0]; · iexact Hc0
      iexact Hc1
    isplitl [Hmr Hm0 Hm1]
    · iapply (twoToks (F := F) (Transfers.shareTok fullShare 32 (pl p)) mv).2
      isplitl [Hmr]; · iexact Hmr
      isplitl [Hm0]; · iexact Hm0
      iexact Hm1
    iapply (Entails.of_eq (pointsTo_congr (row_val d p cv mv f hf)))
    iexact Ho
  isplitl [H0' H1' H2' H3' H4' Hbufs]
  · isplitl [H0' H1' H2' H3' H4']
    · isplitl [H0']; · iexists _; iapply (Entails.of_eq (pts_c0 (F := F) d (co p) _)); iexact H0'
      isplitl [H1']; · iexists _; iapply (Entails.of_eq (pts_c1 (F := F) d (co p) _)); iexact H1'
      isplitl [H2']; · iexists _; iapply (Entails.of_eq (pts_m0 (F := F) d (co p) _)); iexact H2'
      isplitl [H3']; · iexists _; iapply (Entails.of_eq (pts_m1 (F := F) d (co p) _)); iexact H3'
      iexists _; iapply (Entails.of_eq (pts_ac (F := F) d (co p) _)); iexact H4'
    iexact Hbufs
  isplitl [HC Hsems]
  · isplitl [HC]; · iexact HC
    iexact Hsems
  iexists W'; isplitr
  · ipureintro; intro x hx
    exact (hW' x hx).imp id .inl
  · iexact HO

/-! ## The obligation -/

theorem defs₀_vector (c : Fin τ.nSC) (s : Fin τ.nSub) :
    defs₀ (F := F) (.scVector c s) 0 ()
      = SparseCore.onTile hcore0 hsub0 (fun c s => cc0__sc_body (co (c, s)) cvV (Memref.isWhole_whole _) mvV (Memref.isWhole_whole _) ouV (Memref.isWhole_whole _)
          c0V (Memref.isWhole_whole _) c1V (Memref.isWhole_whole _) m0V (Memref.isWhole_whole _) m1V (Memref.isWhole_whole _)
          acV (Memref.isWhole_whole _) cc0_scratch5 cc0_scratch6 cc0_scratch7 cc0_scratch8 cc0_scoped0) ⟨⟩ c s := rfl

variable (cv : (d : Dev nD) → Buf (Elt F) (cvLoc d)) (mv : (d : Dev nD) → Buf (Elt F) (mvLoc d)) (o : (d : Dev nD) → Buf (Elt F) (oLoc d))

theorem tileObl : (K (F := F)).TileObl (D (F := F)) 𝒱 (P cv mv o) v₀ 0 := by
  intro d c i O W hO _ _
  simp only [show (P cv mv o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (⟨_, hci.1⟩, ⟨_, hci.2⟩) O W hO (cv d) (mv d) (o d)

end Cert.Proof.Wing

end
-- ==== Proof.TcRun.lean ====
/-
  The TensorCore's body run once at a point of its grid, at any three whole buffers: sixteen blocks of 128 rows, their
  quotients added up lane by lane and the sum added to the running result, which the first point clears.
-/
module

public import proofs.«01_k».proof.Proof.Setup
public import Idealize.ShloMosaic.Lib.VecWindow
public import Idealize.ShloMosaic.Lib.Pipeline.Value
public import proofs.«01_k».proof.Proof.Gen.KernelIdeal.Launch
public import proofs.«01_k».proof.Proof.Gen.KernelIdeal.Points

@[expose] public section

noncomputable section

namespace Cert.Proof.Wing

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- Block `j`'s coordinate `k` of the sixteen blocks a point holds. -/
def tcCrd (X : S68x16x2x128.Idx → F .f32) (j k : Nat) : Vec F S68x1x1x128 .f32 := fun i =>
  X fun a => match a with
    | 0 => ⟨(i 0).val % 68, Nat.mod_lt _ (by decide)⟩
    | 1 => ⟨j % 16, Nat.mod_lt _ (by decide)⟩
    | 2 => ⟨k % 2, Nat.mod_lt _ (by decide)⟩
    | 3 => ⟨(i 3).val % 128, Nat.mod_lt _ (by decide)⟩

/-- The weights of the block at column `o`. -/
def tcWgt (W : S67x2048.Idx → F .f32) (o : Nat) : Vec F S67x128 .f32 := fun i =>
  W fun a => match a with
    | 0 => ⟨(i 0).val % 67, Nat.mod_lt _ (by decide)⟩
    | 1 => ⟨(o + (i 1).val) % 2048, Nat.mod_lt _ (by decide)⟩

variable [FloatOps F]

/-- The quotients of the first `n` blocks added up from zero. -/
def tcAcc (X : S68x16x2x128.Idx → F .f32) (W : S67x2048.Idx → F .f32) : Nat → FVec F S1x128 .f32
  | 0 => k1_pay2
  | n + 1 => addf (tcAcc X W n) (k1_pay31 (tcCrd X n 0) (tcCrd X n 1) (tcWgt W (128 * n)))

/-- A load of one block's coordinate. -/
theorem load_tcCrd (c : Dev nD) (M : Memref sig .tc .vmem S68x16x2x128 .f32) (f : Buf (Elt F) (M.view.loc (c : Thread nD τ)))
    (j k : Nat) (h : ∀ a, (![0, j, k, 0] : Fin 4 → Nat) a + (![68, 1, 1, 128] : Fin 4 → Nat) a ≤ S68x16x2x128.size a) :
    M.view.readAt (Elt F) (Rect.unit (s := S68x16x2x128) ![0, j, k, 0] ![68, 1, 1, 128] h).toLoadRect f
      = (tcCrd (M.view.read (Elt F) f) j k : Vec F S68x1x1x128 .f32) := by
  funext i
  have h1 : j + 1 ≤ 16 := h 1
  have h2 : k + 1 ≤ 2 := h 2
  have i0 : (i 0).val < 68 := (i 0).isLt
  have i1 : (i 1).val < 1 := (i 1).isLt
  have i2 : (i 2).val < 1 := (i 2).isLt
  have i3 : (i 3).val < 128 := (i 3).isLt
  rw [View.readAt_apply]
  unfold tcCrd
  congr 1
  funext a
  apply Fin.ext
  match a with
  | 0 => show 0 + 1 * (i 0).val = (i 0).val % 68; omega
  | 1 => show j + 1 * (i 1).val = j % 16; omega
  | 2 => show k + 1 * (i 2).val = k % 2; omega
  | 3 => show 0 + 1 * (i 3).val = (i 3).val % 128; omega

/-- A load of one block's weights. -/
theorem load_tcWgt (c : Dev nD) (M : Memref sig .tc .vmem S67x2048 .f32) (f : Buf (Elt F) (M.view.loc (c : Thread nD τ)))
    (o : Nat) (h : ∀ a, (![0, o] : Fin 2 → Nat) a + (![67, 128] : Fin 2 → Nat) a ≤ S67x2048.size a) :
    M.view.readAt (Elt F) (Rect.unit (s := S67x2048) ![0, o] ![67, 128] h).toLoadRect f
      = (tcWgt (M.view.read (Elt F) f) o : Vec F S67x128 .f32) := by
  funext i
  have h1 : o + 128 ≤ 2048 := h 1
  have i0 : (i 0).val < 67 := (i 0).isLt
  have i1 : (i 1).val < 128 := (i 1).isLt
  rw [View.readAt_apply]
  unfold tcWgt
  congr 1
  funext a
  apply Fin.ext
  match a with
  | 0 => show 0 + 1 * (i 0).val = (i 0).val % 67; omega
  | 1 => show o + 1 * (i 1).val = (o + (i 1).val) % 2048; omega

/-- The body at a point: it adds the sixteen blocks' quotients to what the result's buffer holds, or at the first point
    to zero. -/
theorem tc_run (c : Dev nD) (i : grid1.Coords) (M0 : Memref sig .tc .vmem S68x16x2x128 .f32) (h0 : M0.IsWhole)
    (M1 : Memref sig .tc .vmem S67x2048 .f32) (h1 : M1.IsWhole) (M2 : Memref sig .tc .vmem S1x128 .f32) (h2 : M2.IsWhole)
    (f0 : Buf (Elt F) (M0.view.loc (c : Thread nD τ))) (f1 : Buf (Elt F) (M1.view.loc (c : Thread nD τ)))
    (f2 : Buf (Elt F) (M2.view.loc (c : Thread nD τ))) (Q : PUnit → sProp (MM F)) :
    iprop((M0.view.loc (c : Thread nD τ) ↦{fullShare} f0) ∗ (M1.view.loc (c : Thread nD τ) ↦{fullShare} f1)
        ∗ (M2.view.loc (c : Thread nD τ) ↦{fullShare} f2)
        ∗ (∀ f, (⌜M2.view.read (Elt F) f = addf (if (i 0).val = 0 then k1_pay2 else M2.view.read (Elt F) f2)
              (tcAcc (M0.view.read (Elt F) f0) (M1.view.read (Elt F) f1) 16)⌝
            ∗ (M0.view.loc (c : Thread nD τ) ↦{fullShare} f0) ∗ (M1.view.loc (c : Thread nD τ) ↦{fullShare} f1)
            ∗ (M2.view.loc (c : Thread nD τ) ↦{fullShare} f)) -∗ Q ⟨⟩))
      ⊢ wp frame (wpE (defs₀ (F := F)) 𝒱₀ (c : Thread nD τ) none) Set.univ (cc1__tc_body i M0 h0 M1 h1 M2 h2) Q := by
  have hz : (![0, 0] : Fin 2 → Nat) = fun _ => 0 := funext fun a => by fin_cases a <;> rfl
  have hi : (i 0).val < 2 := (i 0).isLt
  iintro ⟨H0, H1, H2, Hk⟩
  sl_exec!
  sl_step
  iapply Hk
  isplitr
  swap
  · isplitl [H0]; · iexact H0
    isplitl [H1]; · iexact H1
    iexact H2
  · ipureintro
    sl_unfold_words
    refine (View.read_writes_full M2.view _ _ _ _).trans ?_
    simp only [load_tcCrd, load_tcWgt]
    rw [View.readAt_eq_ld]
    refine (congrArg (fun o => addf (shapeCast S1x128 o shapeCasts_S1x128_S1x128) _) (View.ld_unit_zero (S := S1x128) hz _ _)).trans ?_
    rw [shapeCast_self]
    refine congr (congrArg addf ?_) rfl
    obtain hi | hi : (i 0).val = 0 ∨ (i 0).val = 1 := by omega
    · simp only [hi]
      rw [dif_pos (by decide), if_pos trivial]
      exact View.read_writes_full M2.view _ _ _ _
    · simp only [hi]
      rw [dif_neg (by decide), if_neg (by decide)]

end Cert.Proof.Wing

end
-- ==== Proof.TcRegion.lean ====
/-
  The TensorCore's pallas_call as a region of the program: what its windows hold at each of the two points, and the
  record by which the pipeline's rule runs it.
-/
module

public import proofs.«01_k».proof.Proof.TcRun
public import proofs.«01_k».proof.Proof.Tile
public import Idealize.ShloMosaic.Lib.Pipeline.Regions

@[expose] public section

noncomputable section

namespace Cert.Proof.Wing

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The TensorCore's result array. -/
abbrev rLoc (d : Dev nD) : Loc nD τ sig := (d : Thread nD τ).loc main_v4

variable (cv : (d : Dev nD) → Buf (Elt F) (cvLoc d)) (mv : (d : Dev nD) → Buf (Elt F) (mvLoc d))
  (o : (d : Dev nD) → Buf (Elt F) (rLoc d)) (b : ℕ)

/-- The coordinates' window at a point, -/
abbrev tcX (d : Dev nD) (t : Fin cfg1.N) : S68x16x2x128.Idx → F .f32 := ((cfg1.win 0).blk t).view.read (Elt F) (cv d)
/-- and the weights'. -/
abbrev tcW (d : Dev nD) (t : Fin cfg1.N) : S67x2048.Idx → F .f32 := ((cfg1.win 1).blk t).view.read (Elt F) (mv d)

/-- What the result's buffer holds after the first point, -/
def tcFst (d : Dev nD) : FVec F S1x128 .f32 := addf k1_pay2 (tcAcc (tcX cv d t1_0) (tcW mv d t1_0) 16)
/-- and after the second. -/
def tcOut (d : Dev nD) : FVec F S1x128 .f32 := addf (tcFst cv mv d) (tcAcc (tcX cv d t1_1) (tcW mv d t1_1) 16)

/-- The region's data: the three arrays as they are found, the buffers after each point, nothing owed, the waits
    recorded at level zero alone. -/
def tcDat (d : Dev nD) : Dat τ (Elt F) (HIx 1) ℕ UU ℕ cfg1 d where
  A w := match w with
    | ⟨0, _⟩ => cv d
    | ⟨1, _⟩ => mv d
    | ⟨2, _⟩ => o d
  after w t := match w with
    | ⟨0, _⟩ => tcX cv d t
    | ⟨1, _⟩ => tcW mv d t
    | ⟨2, _⟩ => if t.val = 0 then tcFst cv mv d else tcOut cv mv d
  Φ _ := BI.emp
  q _ := fullShare
  owed _ := 0
  recorded _ := {p | (K (F := F)).lev (T d, p.1) p.2 ≤ b}

/-- An input's buffer holds its block when the body runs, -/
theorem before_0 (d : Dev nD) (t : Fin cfg1.N) (u) : (tcDat cv mv o b d).before 0 t u = tcX cv d t := by
  unfold Dat.before; rw [if_pos (fetch1_0 t)]; rfl
theorem before_1 (d : Dev nD) (t : Fin cfg1.N) (u) : (tcDat cv mv o b d).before 1 t u = tcW mv d t := by
  unfold Dat.before; rw [if_pos (fetch1_1 t)]; rfl
/-- and at the second point the result's holds what the first left. -/
theorem before_2 (d : Dev nD) (u) : (tcDat cv mv o b d).before 2 t1_1 u = tcFst cv mv d := by
  refine ((tcDat cv mv o b d).before_out_kept 2 rfl t1_1 (by decide) (by decide +kernel) (fun _ => rfl) (fun _ _ => rfl) u).trans ?_
  rfl

/-- A whole buffer read as `X` is held at contents that read `X`. -/
theorem owns_full (d : Dev nD) {sp : Space} {sh : Shape} {e : EltTy} (M : Memref sig .tc sp sh e) (h : M.IsWhole) (X : sh.Idx → Elt F e) :
    (owns (d : Thread nD τ) M fullShare X : sProp (MM F))
      = iprop(∃ f, ⌜M.view.read (Elt F) f = X⌝ ∗ (M.view.loc (d : Thread nD τ) ↦{fullShare} f)) := by
  unfold owns; rw [h.set_eq_univ]

/-- The body at each point, as the pipeline's rule asks for it. -/
theorem tc_body (d : Dev nD) : BodyObligation (tcDat cv mv o b d) (defs₀ (F := F)) 𝒱₀ none Set.univ := fun t => by
  rw [bigSep_W1, bigSep_W1]
  rw [show (tcDat cv mv o b d).Φ t.castSucc = BI.emp from rfl, show (tcDat cv mv o b d).Φ t.succ = BI.emp from rfl,
    show (tcDat cv mv o b d).owesAt none t.succ = (tcDat cv mv o b d).owesAt none t.castSucc from rfl]
  have w0 := hstage1_0 ((cfg1.slots t 0).cast nbuf1_0)
  have w1 := hstage1_1 ((cfg1.slots t 1).cast nbuf1_1)
  have w2 := hstage1_2 ((cfg1.slots t 2).cast nbuf1_2)
  have e0 := fun X => owns_full (F := F) d (st1_0 t) w0 X
  have e1 := fun X => owns_full (F := F) d (st1_1 t) w1 X
  have e2 := fun X => owns_full (F := F) d (st1_2 t) w2 X
  dsimp only
  simp only [e0, e1, e2, before_0, before_1]
  iintro ⟨-, Howes, ⟨%d0, %f0, %hf0, H0⟩, ⟨%d1, %f1, %hf1, H1⟩, ⟨%d2, %f2, %hf2, H2⟩⟩
  iapply (tc_run (F := F) d (grid1.coords t) (st1_0 t) w0 (st1_1 t) w1 (st1_2 t) w2 f0 f1 f2 _)
  isplitl [H0]; · iexact H0
  isplitl [H1]; · iexact H1
  isplitl [H2]; · iexact H2
  iintro %f ⟨%hf, H0, H1, H2⟩
  isplitr; · iempintro
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro
  rw [hf0, hf1, hf2] at hf
  refine hf.trans ?_
  rcases fin_N1 t with rfl | rfl
  · rfl
  · rw [before_2]; rfl

end Cert.Proof.Wing

end
-- ==== Proof.TcSeg.lean ====
/-
  The TensorCore's pallas_call as one step of @main: its result array's contents at the end, and the record by which
  the pipeline's rule runs it from the three arrays to the three arrays.
-/
module

public import proofs.«01_k».proof.Proof.TcRegion
public import Idealize.ShloMosaic.Lib.Pipeline.Value

@[expose] public section

noncomputable section

namespace Cert.Proof.Wing

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

variable (cv : (d : Dev nD) → Buf (Elt F) (cvLoc d)) (mv : (d : Dev nD) → Buf (Elt F) (mvLoc d))
  (o : (d : Dev nD) → Buf (Elt F) (rLoc d)) (b : ℕ)

/-- The one point that writes back writes the whole array at what the second point left. -/
theorem flushed_out (d : Dev nD) (t : Fin cfg1.N) (hf : (cfg1.win 2).flush t = true) :
    (tcDat cv mv o b d).flushed 2 t = ((cfg1.win 2).blk t).view.read (Elt F) (tcOut cv mv d : Buf (Elt F) (rLoc d)) := by
  have h1 := (flush1_2 t).mp hf
  rcases fin_N1 t with rfl | rfl
  · exact absurd h1 (by decide)
  show (cfg1.win 2).cut (grid1.coords t1_1) ((tcDat cv mv o b d).after 2 t1_1) = _
  have hz : (fun a => win1_2.index t1_1 a * main_v4.ty.shape.size a) = fun _ => 0 := funext fun a => by fin_cases a <;> decide
  exact (Memref.read_access_unit_zero (Elt F) main_v4 hz (fun a => by rw [congrFun hz a]; simp) (tcOut cv mv d)).symm

/-- The result array ends holding the sum of both points' columns. -/
theorem out_eq (d : Dev nD) : (tcDat cv mv o b d).arrAt 2 cfg1.N = (tcOut cv mv d : Buf (Elt F) (rLoc d)) :=
  (tcDat cv mv o b d).arrAt_eq_of_cover 2 _ (flushed_out cv mv o b d) fun i =>
    ⟨t1_1, (flush1_2 t1_1).mpr rfl, by
      show i ∈ ((View.whole main_v4).slice (win1_2.rect t1_1)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_1 0 * win1_2.size 0 ≤ (i 0 : Nat) ∧ (i 0 : Nat) < win1_2.index t1_1 0 * win1_2.size 0 + win1_2.xsize (grid1.coords t1_1) 0
                  rw [show win1_2.index t1_1 0 * win1_2.size 0 = 0 from by decide +kernel, show win1_2.xsize (grid1.coords t1_1) 0 = 1 from by decide +kernel]; omega
      | ⟨1, _⟩ => show win1_2.index t1_1 1 * win1_2.size 1 ≤ (i 1 : Nat) ∧ (i 1 : Nat) < win1_2.index t1_1 1 * win1_2.size 1 + win1_2.xsize (grid1.coords t1_1) 1
                  rw [show win1_2.index t1_1 1 * win1_2.size 1 = 0 from by decide +kernel, show win1_2.xsize (grid1.coords t1_1) 1 = 128 from by decide +kernel]; omega⟩

/-- No table is prefetched: the one admissible choice. -/
abbrev adm : (p : Fin 1) → (pcfgs (F := F) p).Adm := fun p => (cfgs p).toPCfg_adm

/-- The one pipeline's data. -/
def pdats : (p : Fin 1) → (c : Dev nD) → Dat τ (Elt F) (HIx 1) ℕ UU ℕ (Pipeline.pin (pcfgs (F := F)) adm p) c
  | ⟨0, _⟩ => fun c => tcDat cv mv o b c

/-- The three arrays of the region, the result's at `X`. -/
abbrev trio (d : Dev nD) (X : Buf (Elt F) (rLoc d)) : sProp (MM F) :=
  iprop((cvLoc d ↦{fullShare} cv d) ∗ (mvLoc d ↦{fullShare} mv d) ∗ rLoc d ↦{fullShare} X)

/-- The core owes nothing and its recorded waits lie at levels up to `b`. -/
abbrev calm (d : Dev nD) : sProp (MM F) :=
  iprop(∃ W, ⌜(K (F := F)).WBelow (T d) W b⌝ ∗ owes (T d) (0 : CellTallies nD τ sig (HIx 1)) W)

/-- The windows' arrays at contents `G` are the three arrays. -/
theorem arrays_trio (d : Dev nD) (G : (w : Fin cfg1.W) → Buf (Elt F) ((cfg1.win w).arr.view.loc (d : Thread nD τ))) :
    (tcDat cv mv o b d).arrays G
      = (iprop((cvLoc d ↦{fullShare} G 0) ∗ (mvLoc d ↦{fullShare} G 1) ∗ rLoc d ↦{fullShare} G 2) : sProp (MM F)) := by
  unfold Dat.arrays
  rw [bigSep_W1]
  have s := (tcDat cv mv o b d).share_full fun _ => rfl
  have hw := fun w => (arr_whole1 w).set_eq_univ
  rw [s 0, s 1, s 2, show (cfg1.win 0).arr.view.set = Finset.univ from hw 0, show (cfg1.win 1).arr.view.set = Finset.univ from hw 1,
    show (cfg1.win 2).arr.view.set = Finset.univ from hw 2]

/-- After the last point they are the two inputs as found and the result's written. -/
theorem arrays_end (d : Dev nD) :
    (tcDat cv mv o b d).arrays ((tcDat cv mv o b d).arrAt · cfg1.N) = trio cv mv d (tcOut cv mv d) := by
  rw [arrays_trio]
  rw [show (tcDat cv mv o b d).arrAt 0 cfg1.N = cv d from (tcDat cv mv o b d).arrAt_in 0 rfl _,
    show (tcDat cv mv o b d).arrAt 1 cfg1.N = mv d from (tcDat cv mv o b d).arrAt_in 1 rfl _, out_eq]

set_option backward.isDefEq.respectTransparency.types false in
/-- The region: from the three arrays and a calm core, to the three arrays with the result's written and the core calm. -/
def seg : Pipeline.RegionSeg (pcfgs (F := F)) adm (pdats cv mv o b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (tc_body cv mv o b c).loose
  hwaits := Pipeline.hwaits_of_owed_zero _ _ _ _ _ _ 0 fun _ _ => rfl
  pre c := iprop(trio cv mv c (o c) ∗ calm b c)
  post c := iprop(trio cv mv c (tcOut cv mv c) ∗ calm b c)
  X _ := BI.emp
  Y _ := BI.emp
  Z _ := BI.emp
  hentry c := by
    rw [Pipeline.ownSems0_none, show (pdats cv mv o b 0 c).arrays ((pdats cv mv o b 0 c).arrAt · 0) = trio cv mv c (o c) from arrays_trio cv mv o b c _]
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (pdats cv mv o b 0 c).Φ 0 = BI.emp from rfl]
    iintro -; iempintro
  hout c := by
    rw [Pipeline.ownSems0_none, show Pipeline.scopedRest (Pipeline.pin (pcfgs (F := F)) adm 0).spec c = BI.emp from scopedRest1_eq c]
    iintro -
    isplitr; · iempintro
    isplitr <;> iempintro
  hexit c := by
    rw [show (pdats cv mv o b 0 c).arrays ((pdats cv mv o b 0 c).arrAt · (Pipeline.pin (pcfgs (F := F)) adm 0).N) = trio cv mv c (tcOut cv mv c) from
      arrays_end cv mv o b c]
    iintro ⟨Ha, HO, -, -⟩
    imodintro
    isplitl [Ha]; · iexact Ha
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Wing

end
-- ==== Proof.Main.lean ====
/-
  The whole program's run: the three host operations that lay the arrays out, the SparseCore call, the TensorCore call,
  and the host operations that sum the two results; the arguments unchanged, the result at its closed form, every
  semaphore at zero.
-/
module

public import proofs.«01_k».proof.Proof.TileObl
public import proofs.«01_k».proof.Proof.TcSeg

@[expose] public section

noncomputable section

namespace Cert.Proof.Wing

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq seq after reshape unary binary nullary)

variable {F : FTy → Type} [FloatOps F]

/-! ## The host's operations -/

/-- The layouts: blocks of 128 rows with the row innermost, the weights transposed. -/
abbrev opsA : List (HloOp τ sig (Elt F)) :=
  [reshape main_arg0 main_v0 (rfl : (.f32 : EltTy) = .f32) shapeCasts_S16384x68x2_S128x128x68x2,
    unary main_v0 main_v1 ((transpose S68x128x2x128 [2, 0, 3, 1] · transposes_S128x128x68x2_S68x128x2x128_2_0_3_1) : (⟨S128x128x68x2, .f32⟩ : BufTy).Contents (Elt F) → (⟨S68x128x2x128, .f32⟩ : BufTy).Contents (Elt F)),
    unary main_arg1 main_v2 ((transpose S67x16384 [1, 0] · transposes_S16384x67_S67x16384_1_0) : (⟨S16384x67, .f32⟩ : BufTy).Contents (Elt F) → (⟨S67x16384, .f32⟩ : BufTy).Contents (Elt F))]

/-- The two results summed, added and scaled. -/
abbrev opsB : List (HloOp τ sig (Elt F)) :=
  [nullary main_cst (constant S_ .f32 0x00000000#32),
    binary main_v3 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_0 (constant S_ .f32 0x00000000#32),
    binary main_v4 main_cst_0 main_v6 ((fun x v => Host.reduceAdd x v reducesTo_S1x128_S_d0_1 h_S_) : (⟨S1x128, .f32⟩ : BufTy).Contents (Elt F) → (⟨S_, .f32⟩ : BufTy).Contents (Elt F) → (⟨S_, .f32⟩ : BufTy).Contents (Elt F)),
    binary main_v5 main_v6 main_v7 (addf : (⟨S_, .f32⟩ : BufTy).Contents (Elt F) → (⟨S_, .f32⟩ : BufTy).Contents (Elt F) → (⟨S_, .f32⟩ : BufTy).Contents (Elt F)),
    nullary main_cst_1 (constant S_ .f32 0x364CCCCD#32),
    binary main_cst_1 main_v7 main_v8 (mulf : (⟨S_, .f32⟩ : BufTy).Contents (Elt F) → (⟨S_, .f32⟩ : BufTy).Contents (Elt F) → (⟨S_, .f32⟩ : BufTy).Contents (Elt F))]

/-- @main is those two lines around the two calls. -/
theorem main_eq (d : Dev nD) : main (F := F) d
    = (seq opsA >>= fun _ => (K (F := F)).run d 0 >>= fun _ =>
        SparseCore.liftProg (.op (.customCall (Pipeline.entry 0) ()) fun _ => .ret PUnit.unit) >>= fun _ => seq opsB) := rfl

/-- Every array of @main, -/
abbrev SA : Finset (DevRef τ sig) := Pipeline.ucRefs τ sig
/-- and the four the calls use. -/
abbrev SC4 : Finset (DevRef τ sig) :=
  {Proc.devRef .tc main_v1, Proc.devRef .tc main_v2, Proc.devRef .tc main_v3, Proc.devRef .tc main_v4}

variable (m : (ℓ : Loc nD τ sig) → Buf (Elt F) ℓ) (ρ : Dev nD → PrngReg)

/-- What the arrays hold at the start, -/
def V0 (d : Dev nD) : Valuation τ sig (Elt F) := fun b => m (d, b)
/-- before the calls, -/
def V1 (d : Dev nD) : Valuation τ sig (Elt F) := after opsA (V0 m d)
/-- the two laid-out arrays among them, -/
abbrev cvM (d : Dev nD) : Buf (Elt F) (cvLoc d) := V1 m d (Proc.devRef .tc main_v1)
abbrev mvM (d : Dev nD) : Buf (Elt F) (mvLoc d) := V1 m d (Proc.devRef .tc main_v2)
abbrev oM (d : Dev nD) : Buf (Elt F) (oLoc d) := V1 m d (Proc.devRef .tc main_v3)
abbrev rM (d : Dev nD) : Buf (Elt F) (rLoc d) := V1 m d (Proc.devRef .tc main_v4)
/-- after the calls, -/
def V2 (d : Dev nD) : Valuation τ sig (Elt F) :=
  Function.update (Function.update (V1 m d) (Proc.devRef .tc main_v3) (scOut d (cvM m d) (mvM m d) : Buf (Elt F) (oLoc d)))
    (Proc.devRef .tc main_v4) (tcOut (cvM m) (mvM m) d : Buf (Elt F) (rLoc d))
/-- and at the end. -/
def V3 (d : Dev nD) : Valuation τ sig (Elt F) := after opsB (V2 m d)

/-- The TensorCore's arrays at the start are @main's, each whole. -/
theorem unscoped_held (d : Dev nD) : (unscopedBufs d (fun b => m ((SparseCore.T d).loc b)) : sProp (MM F)) = held (d.tc : Thread nD τ) SA (V0 m d) :=
  Pipeline.unscopedBufs_held d (V0 m d)

theorem SC4_sub : SC4 ⊆ SA := by decide

/-- The four arrays of the calls, one by one. -/
theorem held_SC4 (d : Dev nD) (W : Valuation τ sig (Elt F)) :
    (held (SparseCore.T d) SC4 W : sProp (MM F))
      = iprop((cvLoc d ↦{fullShare} W (Proc.devRef .tc main_v1)) ∗ (mvLoc d ↦{fullShare} W (Proc.devRef .tc main_v2))
          ∗ (oLoc d ↦{fullShare} W (Proc.devRef .tc main_v3)) ∗ rLoc d ↦{fullShare} W (Proc.devRef .tc main_v4)) := by
  unfold held
  rw [SparseCore.bigSep_insert' (by decide), SparseCore.bigSep_insert' (by decide), SparseCore.bigSep_insert' (by decide), bigSep_singleton]

/-- Off the four the calls change nothing. -/
theorem held_rest (d : Dev nD) : (held (SparseCore.T d) (SA \ SC4) (V2 m d) : sProp (MM F)) = held (SparseCore.T d) (SA \ SC4) (V1 m d) :=
  held_congr _ fun b hb => by
    have hn := (Finset.mem_sdiff.mp hb).2
    unfold V2
    have h3 : b ≠ Proc.devRef .tc main_v3 := fun e => hn (e ▸ (by decide : (Proc.devRef .tc main_v3 : DevRef τ sig) ∈ SC4))
    have h4 : b ≠ Proc.devRef .tc main_v4 := fun e => hn (e ▸ (by decide : (Proc.devRef .tc main_v4 : DevRef τ sig) ∈ SC4))
    rw [Function.update_of_ne h4, Function.update_of_ne h3]

theorem V2_v1 (d : Dev nD) : V2 m d (Proc.devRef .tc main_v1) = cvM m d := by
  unfold V2; rw [Function.update_of_ne (by decide), Function.update_of_ne (by decide)]
theorem V2_v2 (d : Dev nD) : V2 m d (Proc.devRef .tc main_v2) = mvM m d := by
  unfold V2; rw [Function.update_of_ne (by decide), Function.update_of_ne (by decide)]
theorem V2_v3 (d : Dev nD) : V2 m d (Proc.devRef .tc main_v3) = (scOut d (cvM m d) (mvM m d) : Buf (Elt F) (oLoc d)) := by
  unfold V2; rw [Function.update_of_ne (by decide), Function.update_self]
theorem V2_v4 (d : Dev nD) : V2 m d (Proc.devRef .tc main_v4) = (tcOut (cvM m) (mvM m) d : Buf (Elt F) (rLoc d)) := by
  unfold V2; rw [Function.update_self]

theorem opsA_sub : ∀ op ∈ (opsA : List (HloOp τ sig (Elt F))), op.bufs ⊆ SA := by
  have h : (opsA : List (HloOp τ sig (Elt F))).Forall fun op => op.bufs ⊆ StableHlo.tcRefs τ sig :=
    ⟨StableHlo.reshape_bufs_sub .., StableHlo.unary_bufs_sub .., StableHlo.unary_bufs_sub ..⟩
  exact fun op ho => Pipeline.sub_ucRefs op (List.forall_iff_forall_mem.mp h op ho)
theorem opsB_sub : ∀ op ∈ (opsB : List (HloOp τ sig (Elt F))), op.bufs ⊆ SA := by
  have h : (opsB : List (HloOp τ sig (Elt F))).Forall fun op => op.bufs ⊆ StableHlo.tcRefs τ sig :=
    ⟨StableHlo.nullary_bufs_sub .., StableHlo.binary_bufs_sub .., StableHlo.nullary_bufs_sub .., StableHlo.binary_bufs_sub .., StableHlo.binary_bufs_sub ..,
      StableHlo.nullary_bufs_sub .., StableHlo.binary_bufs_sub ..⟩
  exact fun op ho => Pipeline.sub_ucRefs op (List.forall_iff_forall_mem.mp h op ho)
theorem opsA_fresh : ∀ op ∈ (opsA : List (HloOp τ sig (Elt F))), op.fresh = ∅ :=
  List.forall_iff_forall_mem.mp (show (opsA : List (HloOp τ sig (Elt F))).Forall fun op => op.fresh = ∅ from ⟨rfl, rfl, rfl⟩)
theorem opsB_fresh : ∀ op ∈ (opsB : List (HloOp τ sig (Elt F))), op.fresh = ∅ :=
  List.forall_iff_forall_mem.mp (show (opsB : List (HloOp τ sig (Elt F))).Forall fun op => op.fresh = ∅ from ⟨rfl, rfl, rfl, rfl, rfl, rfl, rfl⟩)

/-! ## The launch's ghost state -/

/-- The pipeline's cells and duties. -/
abbrev pCells : UP := initOf (Pipeline.cells (Pipeline.pin (pcfgs (F := F)) adm) (cellOf_inj)) (Pipeline.launchToks (Pipeline.pin (pcfgs (F := F)) adm) (cellOf_inj))

def u₀ : UU := (initOf (K (F := F)).hsCells (K (F := F)).hsToks, (pCells (F := F), 1))

/-- The pipeline's share of a device's launch state. -/
abbrev G (d : Dev nD) : sProp (MM F) :=
  iprop(Pipeline.cellsGhost (Pipeline.pin (pcfgs (F := F)) adm) EP 0 d ∗ Pipeline.toksInit (Pipeline.pin (pcfgs (F := F)) adm) EP 0 d)

abbrev PM : (K (F := F)).Pay (nD := nD) (Val := Elt F) (Name := ℕ) (U := UU) := P (cvM m) (mvM m) (oM m)

/-- There is one pipeline. -/
theorem one_pipe (Φ : Fin 1 → Dev nD → sProp (MM F)) :
    (bigSep Finset.univ fun c : Dev nD => bigSep Finset.univ fun p => Φ p c) ⊢ bigSep Finset.univ fun c : Dev nD => Φ 0 c :=
  Entails.of_eq (bigSep_congr fun c _ => bigSep_univ_of_subsingleton (0 : Fin 1))

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks) ((pCells (F := F), 1) : UP × Counters)) $$ Hu
  icases H with ⟨HH, HR⟩
  ihave H2 := (own_pair_emb (embR (A := UH) (B := UP × Counters)) (pCells (F := F)) (1 : Counters)) $$ HR
  icases H2 with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']
    isplitl [Hc]
    · iapply (one_pipe (F := F) (fun p c => Pipeline.cellsGhost (Pipeline.pin (pcfgs (F := F)) adm) EP p c)); iexact Hc
    · iapply (one_pipe (F := F) (fun p c => Pipeline.toksInit (Pipeline.pin (pcfgs (F := F)) adm) EP p c)); iexact Ht
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1)]
  iapply (Entails.of_eq (bigSep_emp_const _).symm); iempintro

/-! ## @main on the TensorCore -/

theorem st_eq (d : Dev nD) : (bigSep Finset.univ fun c : Fin ((K (F := F)).nCore 0) => (PM m).st 0 d c)
    = bigSep Finset.univ fun p => goP d (cvM m d) (mvM m d) (oM m d) p := cores _
theorem dn_eq (d : Dev nD) : (bigSep Finset.univ fun c : Fin ((K (F := F)).nCore 0) => (PM m).dn 0 d c)
    = bigSep Finset.univ fun p => goP d (cvM m d) (mvM m d) (scOut d (cvM m d) (mvM m d)) p := cores _

/-- The level bound on the waits recorded after the call. -/
abbrev lvB : ℕ := 8 * SparseCore.Cfg.Blocks.fst (Q := 1) (N := 1) 1

/-- What @main leaves: every array at its final contents. -/
abbrev FIN (d : Dev nD) : sProp (MM F) := held (d.tc : Thread nD τ) SA (V3 m d)

instance EP_landsIn : (EP : Emb UP (MM F)).LandsIn (upEmb : UEmb _ (MM F)) := by unfold EP; infer_instance

theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, Hg, Ht⟩
  iapply (wp_seq 𝒱 none Set.univ d SA _ opsA opsA_sub opsA_fresh (V0 m d)) $$ [Hb Hheld]
  · isplitl [Hb] <;> iassumption
  iintro ⟨Hb, Hheld⟩
  ihave Hh := (Entails.of_eq (held_sub_split (d.tc : Thread nD τ) SC4_sub (after opsA (V0 m d)))) $$ Hheld
  icases Hh with ⟨H4, Hrest⟩
  ihave H4' := (Entails.of_eq (held_SC4 d _)) $$ H4
  icases H4' with ⟨Hc, Hm, Ho, Hr⟩
  ihave Hd := (deal d (cvM m d) (mvM m d) (oM m d)).1 $$ [Hc Hm Ho]
  · isplitl [Hc]; · iexact Hc
    isplitl [Hm]; · iexact Hm
    iexact Ho
  icases Hd with ⟨Hkeep, Hgo⟩
  rw [wp_bind]
  iapply ((K (F := F)).wp_run (D (F := F)) 𝒱 (EH := EH) (P := PM m) κ d 0) $$ [Hst Hgo Hkeep Hr Hrest Hb Hts Hg Ht]
  isplitr; · iexact Hctx
  isplitl [Hst]; · iexact Hst
  isplitl [Hgo]
  · rw [st_eq]; iexact Hgo
  iintro ⟨Hst, Hdn⟩
  ihave Hdn' := (Entails.of_eq (dn_eq m d)) $$ Hdn
  ihave Hj := (deal d (cvM m d) (mvM m d) (scOut d (cvM m d) (mvM m d))).2 $$ [Hkeep Hdn']
  · isplitl [Hkeep]; · iexact Hkeep
    iexact Hdn'
  icases Hj with ⟨Hc, Hm, Ho⟩
  rw [wp_bind]
  iapply ((K (F := F)).wp_liftProg (D (F := F)) 𝒱 (SparseCore.T d) Set.univ none _ _)
  ihave Hlev := (SparseCore.Cfg.ctx_levAts κ) $$ Hctx
  unfold SparseCore.Cfg.tcSt
  icases Hst with ⟨⟨%W, %hW, HO⟩, Hst⟩
  rw [(K (F := F)).Otc_end d (n := (0 : Fin 1).val + 1) le_rfl]
  iapply (Pipeline.RegionSeg.wp (pcfgs (F := F)) adm (pdats (cvM m) (mvM m) (rM m) lvB) none cellOf_inj EP defs₀ 𝒱₀ (K (F := F)).L (K (F := F)).lev
    (seg (cvM m) (mvM m) (rM m) lvB) d none (fun _ h => nomatch h) (fun _ => .ret ⟨⟩) _)
  isplitr [Hb Hc Hm Hr HO Hlev Hg Ht]
  · iintro ⟨Hb, Hpost⟩
    have hp : (seg (cvM m) (mvM m) (rM m) lvB).post d ⊢ iprop(trio (cvM m) (mvM m) d (tcOut (cvM m) (mvM m) d) ∗ calm (F := F) lvB d) := .rfl
    ihave Hp := hp $$ Hpost
    icases Hp with ⟨⟨Hc, Hm, Hr⟩, %W', %hW', HO⟩
    rw [wp_ret]
    imodintro
    ihave H4 := (Entails.of_eq (held_SC4 d (V2 m d)).symm) $$ [Hc Hm Ho Hr]
    · rw [V2_v1, V2_v2, V2_v3, V2_v4]
      isplitl [Hc]; · iexact Hc
      isplitl [Hm]; · iexact Hm
      isplitl [Ho]; · iexact Ho
      iexact Hr
    ihave Hheld := (Entails.of_eq (held_sub_split (d.tc : Thread nD τ) SC4_sub (V2 m d)).symm) $$ [H4 Hrest]
    · isplitl [H4]; · iexact H4
      rw [held_rest]; iexact Hrest
    rw [← bind_pure (seq (opsB (F := F)))]
    iapply (wp_seq 𝒱 none Set.univ d SA _ opsB opsB_sub opsB_fresh (V2 m d)) $$ [Hb Hheld]
    · isplitl [Hb] <;> iassumption
    iintro ⟨Hb, Hheld⟩
    rw [wp_pure]
    imodintro
    isplitl [HO Hst]
    · rw [(K (F := F)).Otc_end d (n := 1) le_rfl]
      isplitl [HO]
      · iexists W'; isplitr; · ipureintro; exact hW'
        iexact HO
      iexact Hst
    isplitl [Hheld]; · iexact Hheld
    isplitl [Hb]; · iexact Hb
    iexact Hts
  isplitl [Hb]; · iexact Hb
  isplitl [Hc Hm Hr HO]
  · rw [show (seg (cvM m) (mvM m) (rM m) lvB).pre d = iprop(trio (cvM m) (mvM m) d (rM m d) ∗ calm (F := F) lvB d) from rfl]
    isplitl [Hc Hm Hr]
    · isplitl [Hc]; · iexact Hc
      isplitl [Hm]; · iexact Hm
      iexact Hr
    iexists W; isplitr; · ipureintro; exact hW
    iexact HO
  isplitl [Hlev]; · iexact Hlev
  isplitl [Hg]; · iexact Hg
  iexact Ht

/-- Of a device's final state: the two arguments and the result read what the last valuation gives. -/
def fq (d : Dev nD) (s' : Phys nD τ sig (Elt F)) : Prop :=
  s'.mem.mem (d, Proc.devRef .tc main_arg0) = V3 m d (Proc.devRef .tc main_arg0)
    ∧ s'.mem.mem (d, Proc.devRef .tc main_arg1) = V3 m d (Proc.devRef .tc main_arg1)
    ∧ s'.mem.mem (d, Proc.devRef .tc main_v8) = V3 m d (Proc.devRef .tc main_v8)

/-- Holding the arrays fixes what the final memory reads. -/
theorem held_read (d : Dev nD) (W : Valuation τ sig (Elt F)) (s' : Phys nD τ sig (Elt F)) (b : DevRef τ sig) (hb : b ∈ SA) :
    iprop(held (d.tc : Thread nD τ) SA W ∗ SI s') ⊢ (⌜s'.mem.mem (d, b) = W b⌝ : sProp (MM F)) := by
  iintro ⟨Hh, HSI⟩
  have e : (held (d.tc : Thread nD τ) SA W : sProp (MM F)) ⊢ iprop((((d, b) : Loc nD τ sig) ↦{fullShare} W b)) := bigSep_elim hb
  ihave Hb := e $$ Hh
  ihave H := (SI_pointsTo_agree (st := s') (ℓ := ((d, b) : Loc nD τ sig)) (I := Finset.univ) (q := fullShare) (f := W b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp (MM F)) := by
  iintro H
  ihave H := (persistent_entails_right (held_read d (V3 m d) s' (Proc.devRef .tc main_arg0) (by decide))) $$ H
  icases H with ⟨%h0, H⟩
  ihave H := (persistent_entails_right (held_read d (V3 m d) s' (Proc.devRef .tc main_arg1) (by decide))) $$ H
  icases H with ⟨%h1, H⟩
  ihave H := (held_read d (V3 m d) s' (Proc.devRef .tc main_v8) (by decide)) $$ H
  icases H with %h2
  ipureintro
  exact ⟨h0, h1, h2⟩

/-! ## What the last valuation gives -/

/-- The arguments are as they were, -/
theorem V3_arg0 (d : Dev nD) : V3 m d (Proc.devRef .tc main_arg0) = m (d, Proc.devRef .tc main_arg0) := by
  unfold V3
  have e : after opsB (V2 m d) (Proc.devRef .tc main_arg0) = V2 m d (Proc.devRef .tc main_arg0) := by after_results
  rw [e]
  unfold V2
  rw [Function.update_of_ne (by decide), Function.update_of_ne (by decide)]
  unfold V1
  after_results
  rfl
theorem V3_arg1 (d : Dev nD) : V3 m d (Proc.devRef .tc main_arg1) = m (d, Proc.devRef .tc main_arg1) := by
  unfold V3
  have e : after opsB (V2 m d) (Proc.devRef .tc main_arg1) = V2 m d (Proc.devRef .tc main_arg1) := by after_results
  rw [e]
  unfold V2
  rw [Function.update_of_ne (by decide), Function.update_of_ne (by decide)]
  unfold V1
  after_results
  rfl

/-- the two laid-out arrays are the arguments reshaped and transposed, -/
theorem cvM_eq (d : Dev nD) : cvM m d
    = transpose S68x128x2x128 [2, 0, 3, 1] (shapeCast S128x128x68x2 (m (d, Proc.devRef .tc main_arg0) : Vec F S16384x68x2 .f32) shapeCasts_S16384x68x2_S128x128x68x2)
        transposes_S128x128x68x2_S68x128x2x128_2_0_3_1 := by
  unfold cvM V1
  after_results
  rfl
theorem mvM_eq (d : Dev nD) : mvM m d
    = transpose S67x16384 [1, 0] (m (d, Proc.devRef .tc main_arg1) : Vec F S16384x67 .f32) transposes_S16384x67_S67x16384_1_0 := by
  unfold mvM V1
  after_results
  rfl

/-- and the result is the sum of the two calls' results, scaled. -/
theorem V3_v8 (d : Dev nD) : V3 m d (Proc.devRef .tc main_v8)
    = mulf (constant S_ .f32 0x364CCCCD#32)
        (addf (Host.reduceAdd (scOut d (cvM m d) (mvM m d) : Vec F S32x16 .f32) (constant S_ .f32 0x00000000#32) reducesTo_S32x16_S_d0_1 h_S_)
          (Host.reduceAdd (tcOut (cvM m) (mvM m) d : Vec F S1x128 .f32) (constant S_ .f32 0x00000000#32) reducesTo_S1x128_S_d0_1 h_S_)) := by
  unfold V3
  after_results
  rw [V2_v3, V2_v4]

/-! ## The run -/

/-- What the run ends with: the arguments unchanged, the result, every semaphore at zero. -/
def QC : PUnit × MemSt nD τ sig (Elt F) → Prop := fun r =>
  (∀ d : Dev nD, r.2.mem (d, Proc.devRef .tc main_arg0) = m (d, Proc.devRef .tc main_arg0)
    ∧ r.2.mem (d, Proc.devRef .tc main_arg1) = m (d, Proc.devRef .tc main_arg1)
    ∧ r.2.mem (d, Proc.devRef .tc main_v8) = V3 m d (Proc.devRef .tc main_v8)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (cvM m) (mvM m) (oM m))
    (fun q _ => match q with | 0 => SparseCore.Cfg.VecSplit.of_plain (vecSplit (cvM m) (mvM m) (oM m)))
    m ρ main G (FIN m) (u₀ (F := F)) (sep_elim_left.trans (hu₀ m)) (hmain m ρ) (fq m) (hfin m) (QC m)
    (fun _ h hz => ⟨fun d => ⟨(h d).1.trans (V3_arg0 m d), (h d).2.1.trans (V3_arg1 m d), (h d).2.2⟩, hz⟩)

end Cert.Proof.Wing

end
-- ==== Proof.Frames.lean ====
/-
  The frames: each program runs to its end, its arguments unchanged and every semaphore at zero.
-/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.Proof.Wing

open Idealize.ShloMosaic Idealize.SL.Sem

/-- `Cert.quiescent_KernelIdeal`. -/
theorem frame_KernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- `Cert.quiescent_ReferenceIdeal`. -/
theorem frame_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- `Cert.quiescent_Kernel` is the same statement of the same text under its other name. -/
theorem same_text : Cert.quiescent_Kernel = (∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) := by
  sl_kernel_rfl

/-- `Cert.quiescent_Kernel`. -/
theorem frame_Kernel : Cert.quiescent_Kernel := same_text ▸ fun m ρ _ =>
  (θ_run Cert.KernelIdeal.defs _ _).mono (fun _ h => ⟨fun c => ⟨(h.1 c).1, (h.1 c).2.1⟩, h.2⟩) (run_main (F := Bits) m ρ)

end Cert.Proof.Wing

end
-- ==== Proof.Loss.lean ====
/-
  The mathematics of the loss over the extended reals, at a number of a row rather than an index of an array: a row's
  loss is the weighted sum of its 67 edges' lengths over the sum of their weights, that sum taken at least one. Then the
  one fact about sums that both halves of the kernel need: a sum over `m · n` numbers is the sum of its `m` runs of `n`.
-/
module

public import proofs.«01_k».proof.Proof.Setup
public import Idealize.ShloMosaic.PureOps.Ideal
public import Idealize.ShloMosaic.Lib.IdealHost
public import Idealize.ShloMosaic.Lib.Pointwise

@[expose] public section

noncomputable section

namespace Cert.Proof.Wing

open Cert.KernelIdeal
open Idealize.ShloMosaic

/-- The points of all rows, and the weights of their edges. -/
abbrev Pts := Vec Ideal S16384x68x2 .f32
abbrev Wts := Vec Ideal S16384x67 .f32

/-- Coordinate `c` of row `b`'s point `k` (each number read within its extent). -/
def pt (X : Pts) (b k c : Nat) : EReal := X (ValueIdx.ix3 (Fin.ofNat 16384 b) (Fin.ofNat 68 k) (Fin.ofNat 2 c))
/-- The weight of row `b`'s edge `e`. -/
def wt (W : Wts) (b e : Nat) : EReal := W (ValueIdx.ix2 (Fin.ofNat 16384 b) (Fin.ofNat 67 e))

/-- The distance of two numbers. -/
def gap (x y : EReal) : EReal := max (x - y) (-(x - y))
/-- The length of row `b`'s edge `e`, from point `e` to point `e + 1`. -/
def edge (X : Pts) (b e : Nat) : EReal := gap (pt X b e 0) (pt X b (e + 1) 0) + gap (pt X b e 1) (pt X b (e + 1) 1)

/-- The weighted sum of row `b`'s first `n` edges, -/
def top (X : Pts) (W : Wts) (b n : Nat) : EReal := ∑ e ∈ Finset.range n, edge X b e * wt W b e
/-- the sum of their weights, -/
def bot (W : Wts) (b n : Nat) : EReal := ∑ e ∈ Finset.range n, wt W b e
/-- and the row's loss. -/
def loss (X : Pts) (W : Wts) (b : Nat) : EReal := Ideal.div (top X W b 67) (max (bot W b 67) 1)

/-- A sum over `m · n` numbers, run by run. -/
theorem sum_runs {M : Type} [AddCommMonoid M] (f : Nat → M) (m n : Nat) :
    ∑ b ∈ Finset.range (m * n), f b = ∑ i ∈ Finset.range m, ∑ j ∈ Finset.range n, f (n * i + j) := by
  induction m with
  | zero => simp
  | succ m ih => rw [Nat.succ_mul, Finset.sum_range_add, ih, Finset.sum_range_succ, Nat.mul_comm n m]

/-- The rows the SparseCore takes: three blocks of eight groups of sixteen lanes for each of 32 tiles. -/
theorem sum_sc {M : Type} [AddCommMonoid M] (f : Nat → M) :
    ∑ x ∈ Finset.range 32, ∑ l ∈ Finset.range 16, ∑ g ∈ Finset.range 8, ∑ r ∈ Finset.range 3, f (128 * (3 * x + r) + 16 * g + l)
      = ∑ b ∈ Finset.range 12288, f b := by
  rw [show 12288 = 32 * (3 * (8 * 16)) from rfl, sum_runs f 32]
  refine Finset.sum_congr rfl fun x _ => ?_
  rw [sum_runs _ 3, Finset.sum_congr rfl fun r _ => sum_runs _ 8 16]
  rw [Finset.sum_congr rfl fun l _ => Finset.sum_comm (s := Finset.range 8), Finset.sum_comm]
  refine Finset.sum_congr rfl fun r _ => ?_
  rw [Finset.sum_comm]
  refine Finset.sum_congr rfl fun g _ => Finset.sum_congr rfl fun l _ => congrArg f ?_
  omega

/-- The rows the TensorCore takes: sixteen blocks of 128 lanes at each of two points. -/
theorem sum_tc {M : Type} [AddCommMonoid M] (f : Nat → M) :
    ∑ l ∈ Finset.range 128, ∑ t ∈ Finset.range 2, ∑ j ∈ Finset.range 16, f (128 * (96 + 16 * t + j) + l)
      = ∑ b ∈ Finset.range 4096, f (12288 + b) := by
  rw [show 4096 = 2 * (16 * 128) from rfl, sum_runs _ 2, Finset.sum_comm]
  refine Finset.sum_congr rfl fun t _ => ?_
  rw [sum_runs _ 16, Finset.sum_comm]
  refine Finset.sum_congr rfl fun j _ => Finset.sum_congr rfl fun l _ => congrArg f ?_
  omega

/-- All rows' losses added up. -/
def total (X : Pts) (W : Wts) : EReal := ∑ b ∈ Finset.range 16384, loss X W b

/-- The total is the first 12288 rows' and the last 4096 rows'. -/
theorem total_split (X : Pts) (W : Wts) :
    total X W = ∑ b ∈ Finset.range 12288, loss X W b + ∑ b ∈ Finset.range 4096, loss X W (12288 + b) :=
  Finset.sum_range_add _ 12288 4096

end Cert.Proof.Wing

end
-- ==== Proof.ScSum.lean ====
/-
  What the 32 tiles leave, over the extended reals: a lane of a tile's row is the sum of the losses of the 24 rows that
  lane has worked on, and the 512 lanes together are the losses of the first 12288 rows.
-/
module

public import proofs.«01_k».proof.Proof.Loss
public import proofs.«01_k».proof.Proof.Tile

@[expose] public section

set_option maxRecDepth 16384

noncomputable section

namespace Cert.Proof.Wing

open Cert.KernelIdeal Cert.KernelIdeal.Gen
open Idealize.ShloMosaic

/-- The points as the kernel first lays them out: point, block of 128 rows, coordinate, lane. -/
def laidC (X : Pts) : Vec Ideal S68x128x2x128 .f32 :=
  transpose S68x128x2x128 [2,0,3,1] (shapeCast S128x128x68x2 X shapeCasts_S16384x68x2_S128x128x68x2) transposes_S128x128x68x2_S68x128x2x128_2_0_3_1
/-- The weights as the kernel first lays them out: edge, row. -/
def laidM (W : Wts) : Vec Ideal S67x16384 .f32 := transpose S67x16384 [1,0] W transposes_S16384x67_S67x16384_1_0

theorem laidC_apply (X : Pts) (i : S68x128x2x128.Idx) :
    laidC X i = pt X (128 * (i 1).val + (i 3).val) (i 0).val (i 2).val := by
  unfold laidC pt
  have h0 : (i 0).val < 68 := (i 0).isLt
  have h1 : (i 1).val < 128 := (i 1).isLt
  have h2 : (i 2).val < 2 := (i 2).isLt
  have h3 : (i 3).val < 128 := (i 3).isLt
  pointwise
  exact congrArg X (funext fun a => Fin.ext (match a with
    | 0 => by show (i 1).val * 128 + (i 3).val = (128 * (i 1).val + (i 3).val) % 16384; omega
    | 1 => (Nat.mod_eq_of_lt h0).symm
    | 2 => (Nat.mod_eq_of_lt h2).symm))

theorem laidM_apply (W : Wts) (i : S67x16384.Idx) : laidM W i = wt W (i 1).val (i 0).val := by
  unfold laidM wt
  pointwise
  exact congrArg W (funext fun a => Fin.ext (match a with
    | 0 => (Nat.mod_eq_of_lt (i 1).isLt).symm
    | 1 => (Nat.mod_eq_of_lt (i 0).isLt).symm))

theorem one_f32 : (Scalar.ofBits .f32 0x3F800000#32 : Ideal .f32) = (1 : EReal) := Ideal.ofBits_one_f32
theorem zero_f32 : (Scalar.ofBits .f32 0x00000000#32 : Ideal .f32) = (0 : EReal) := Ideal.ofBits_zero_f32

/-- Tile `2 s + c`'s coordinates, from its row. -/
theorem tile_row (x : S32x16.Idx) : 2 * (co (tileOf x) 1).val + (co (tileOf x) 0).val = (x 0).val := by
  show 2 * ((x 0).val / 2 % 16) + (x 0).val % 2 = _
  have : (x 0).val < 32 := (x 0).isLt
  omega

/-- A tile's block `r` of the points, read, -/
theorem blkC_apply (d : Dev nD) (x : S32x16.Idx) (X : Pts) (r : Fin 3) (k c j : Nat) (hj : j < 128) (hk : k < 68) (hc : c < 2) :
    blkC d (co (tileOf x)) (laidC X : Buf (Elt Ideal) (cvLoc d)) r (cix k c j) = pt X (128 * (3 * (x 0).val + r.val) + j) k c := by
  have e : blkC d (co (tileOf x)) (laidC X : Buf (Elt Ideal) (cvLoc d)) r (cix k c j)
    = laidC X ((Rect.unit (s := S68x128x2x128) (k0_off1 (co (tileOf x)) (BitVec.ofNat 32 r)) S68x1x2x128.size (k0_off1_inb (co (tileOf x)) r)).emb (cix k c j)) := rfl
  have h := tile_row x
  rw [e, laidC_apply]
  have o (a : Fin 4) := congrFun (k0_off1_eq (co (tileOf x)) r) a
  refine congr (congr (congrArg (pt X) ?_) ?_) ?_
  · show 128 * (k0_off1 (co (tileOf x)) (BitVec.ofNat 32 r) 1 + 1 * 0) + (k0_off1 (co (tileOf x)) (BitVec.ofNat 32 r) 3 + 1 * (j % 128)) = _
    rw [o 1, o 3]
    show 128 * (6 * (co (tileOf x) 1).val + 3 * (co (tileOf x) 0).val + r.val + 1 * 0) + (0 + 1 * (j % 128)) = _
    omega
  · show k0_off1 (co (tileOf x)) (BitVec.ofNat 32 r) 0 + 1 * (k % 68) = k
    rw [o 0]
    show 0 + 1 * (k % 68) = k
    omega
  · show k0_off1 (co (tileOf x)) (BitVec.ofNat 32 r) 2 + 1 * (c % 2) = c
    rw [o 2]
    show 0 + 1 * (c % 2) = c
    omega

/-- and of the weights. -/
theorem blkM_apply (d : Dev nD) (x : S32x16.Idx) (W : Wts) (r : Fin 3) (e j : Nat) (hj : j < 128) (he : e < 67) :
    blkM d (co (tileOf x)) (laidM W : Buf (Elt Ideal) (mvLoc d)) r (mix e j) = wt W (128 * (3 * (x 0).val + r.val) + j) e := by
  have q : blkM d (co (tileOf x)) (laidM W : Buf (Elt Ideal) (mvLoc d)) r (mix e j)
    = laidM W ((Rect.unit (s := S67x16384) (k0_off2 (co (tileOf x)) (BitVec.ofNat 32 r)) S67x128.size (k0_off2_inb (co (tileOf x)) r)).emb (mix e j)) := rfl
  have h := tile_row x
  rw [q, laidM_apply]
  have o (a : Fin 2) := congrFun (k0_off2_eq (co (tileOf x)) r) a
  refine congr (congrArg (wt W) ?_) ?_
  · show k0_off2 (co (tileOf x)) (BitVec.ofNat 32 r) 1 + 1 * (j % 128) = _
    rw [o 1]
    show 768 * (co (tileOf x) 1).val + 384 * (co (tileOf x) 0).val + 128 * r.val + 1 * (j % 128) = _
    omega
  · show k0_off2 (co (tileOf x)) (BitVec.ofNat 32 r) 0 + 1 * (e % 67) = e
    rw [o 0]
    show 0 + 1 * (e % 67) = e
    omega

/-! ## A group's quotient is its lanes' losses -/

section Group
variable {X : Pts} {W : Wts} {Bc : Vec Ideal S68x1x2x128 .f32} {Bm : Vec Ideal S67x128 .f32} {o g : Nat} {l : S16.Idx}

/-- The loop's weighted sum, at a lane of a block that holds the rows from `o` on, -/
theorem num_lane (hc : ∀ k c j, j < 128 → k < 68 → c < 2 → Bc (cix k c j) = pt X (o + j) k c)
    (hm : ∀ e j, j < 128 → e < 67 → Bm (mix e j) = wt W (o + j) e) (hg : g < 8) :
    ∀ n, n ≤ 67 → num Bc Bm g n l = top X W (o + (16 * g + (l 0).val)) n
  | 0, _ => zero_f32
  | n + 1, hn => by
    have hl : (l 0).val < 16 := (l 0).isLt
    have hj : 16 * g + (l 0).val < 128 := by omega
    rw [top, Finset.sum_range_succ, ← top, ← num_lane hc hm hg n (by omega)]
    unfold edge
    rw [← hc n 0 _ hj (by omega) (by omega), ← hc n 1 _ hj (by omega) (by omega), ← hc (n + 1) 0 _ hj (by omega) (by omega),
      ← hc (n + 1) 1 _ hj (by omega) (by omega), ← hm n _ hj (by omega)]
    rfl

/-- the loop's sum of weights, -/
theorem den_lane (hm : ∀ e j, j < 128 → e < 67 → Bm (mix e j) = wt W (o + j) e) (hg : g < 8) :
    ∀ n, n ≤ 67 → den Bm g n l = bot W (o + (16 * g + (l 0).val)) n
  | 0, _ => zero_f32
  | n + 1, hn => by
    have hl : (l 0).val < 16 := (l 0).isLt
    have hj : 16 * g + (l 0).val < 128 := by omega
    rw [bot, Finset.sum_range_succ, ← bot, ← den_lane hm hg n (by omega), ← hm n _ hj (by omega)]
    rfl

/-- and their quotient. -/
theorem quo_lane (hc : ∀ k c j, j < 128 → k < 68 → c < 2 → Bc (cix k c j) = pt X (o + j) k c)
    (hm : ∀ e j, j < 128 → e < 67 → Bm (mix e j) = wt W (o + j) e) (hg : g < 8) :
    quo Bc Bm g l = loss X W (o + (16 * g + (l 0).val)) := by
  unfold loss
  rw [← num_lane hc hm hg 67 le_rfl, ← den_lane hm hg 67 le_rfl, ← one_f32]
  rfl

end Group

/-- A lane of a tile's row: three blocks' rows in each of eight groups. -/
theorem scOut_apply (d : Dev nD) (X : Pts) (W : Wts) (x : S32x16.Idx) :
    (scOut d (laidC X : Buf (Elt Ideal) (cvLoc d)) (laidM W : Buf (Elt Ideal) (mvLoc d)) x : EReal)
      = ∑ g ∈ Finset.range 8, ∑ r ∈ Finset.range 3, loss X W (128 * (3 * (x 0).val + r) + 16 * g + (x 1).val) := by
  have q (g r : Nat) (hg : g < 8) (hr : r < 3) :
      quo (blkC d (co (tileOf x)) (laidC X : Buf (Elt Ideal) (cvLoc d)) (Fin.ofNat 3 r)) (blkM d (co (tileOf x)) (laidM W : Buf (Elt Ideal) (mvLoc d)) (Fin.ofNat 3 r)) g (laneOf x)
        = loss X W (128 * (3 * (x 0).val + r) + 16 * g + (x 1).val) := by
    rw [quo_lane (fun k c j => blkC_apply d x X (Fin.ofNat 3 r) k c j) (fun e j => blkM_apply d x W (Fin.ofNat 3 r) e j) hg]
    refine congrArg (loss X W) ?_
    show 128 * (3 * (x 0).val + r % 3) + (16 * g + (x 1).val) = _
    omega
  have a (g : Nat) (hg : g < 8) :
      (acc3 (fun r => blkC d (co (tileOf x)) (laidC X : Buf (Elt Ideal) (cvLoc d)) (Fin.ofNat 3 r)) (fun r => blkM d (co (tileOf x)) (laidM W : Buf (Elt Ideal) (mvLoc d)) (Fin.ofNat 3 r)) g (laneOf x) : EReal)
        = ∑ r ∈ Finset.range 3, loss X W (128 * (3 * (x 0).val + r) + 16 * g + (x 1).val) := by
    rw [Finset.sum_range_succ, Finset.sum_range_succ, Finset.sum_range_succ, Finset.sum_range_zero, ← zero_f32,
      ← q g 0 hg (by omega), ← q g 1 hg (by omega), ← q g 2 hg (by omega)]
    rfl
  simp only [Finset.sum_range_succ _ 7, Finset.sum_range_succ _ 6, Finset.sum_range_succ _ 5, Finset.sum_range_succ _ 4,
    Finset.sum_range_succ (fun g => ∑ r ∈ Finset.range 3, loss X W (128 * (3 * (x 0).val + r) + 16 * g + (x 1).val)), Finset.sum_range_zero]
  rw [← a 0 (by omega), ← a 1 (by omega), ← a 2 (by omega), ← a 3 (by omega), ← a 4 (by omega), ← a 5 (by omega), ← a 6 (by omega),
    ← a 7 (by omega), zero_add]
  rfl

/-- All lanes of all tiles: the first 12288 rows. -/
theorem scOut_sum (d : Dev nD) (X : Pts) (W : Wts) :
    (∑ x : S32x16.Idx, (show EReal from scOut d (laidC X : Buf (Elt Ideal) (cvLoc d)) (laidM W : Buf (Elt Ideal) (mvLoc d)) x))
      = ∑ b ∈ Finset.range 12288, loss X W b := by
  rw [ValueIdx.sum_idx2, ← sum_sc, Finset.sum_range]
  refine Finset.sum_congr rfl fun x _ => ?_
  rw [Finset.sum_range]
  exact Finset.sum_congr rfl fun l _ => scOut_apply d X W _

end Cert.Proof.Wing

end
-- ==== Proof.TcSum.lean ====
/-
  What the TensorCore leaves, over the extended reals: a lane is the sum of the losses of the 32 rows that lane has worked
  on, and the 128 lanes together are the losses of the last 4096 rows.
-/
module

public import proofs.«01_k».proof.Proof.ScSum
public import proofs.«01_k».proof.Proof.TcRegion

@[expose] public section

set_option maxRecDepth 16384

noncomputable section

namespace Cert.Proof.Wing

open Cert.KernelIdeal Cert.KernelIdeal.Gen
open Idealize.ShloMosaic

/-- One block's quotients, at a lane, when the block's point and weight reads are the row's. -/
theorem quot_lane (X : Pts) (W : Wts) (b : Nat) (A B : Vec Ideal S68x1x1x128 .f32) (C : Vec Ideal S67x128 .f32) (i : S1x128.Idx)
    (ha : ∀ k : Fin 68, A (ValueIdx.ix4 k 0 0 (i 1)) = pt X b k.val 0)
    (hb : ∀ k : Fin 68, B (ValueIdx.ix4 k 0 0 (i 1)) = pt X b k.val 1)
    (hc : ∀ e : Fin 67, C (ValueIdx.ix2 e (i 1)) = wt W b e.val) :
    (k1_pay31 A B C i : EReal) = loss X W b := by
  unfold loss top bot
  rw [Finset.sum_range, Finset.sum_range]
  pointwise [k1_pay31]
  have hn (e : Fin 67) : gap (A (ValueIdx.ix4 ⟨e.val, by omega⟩ 0 0 (i 1))) (A (ValueIdx.ix4 ⟨1 + e.val, by omega⟩ 0 0 (i 1)))
        + gap (B (ValueIdx.ix4 ⟨e.val, by omega⟩ 0 0 (i 1))) (B (ValueIdx.ix4 ⟨1 + e.val, by omega⟩ 0 0 (i 1))) = edge X b e.val := by
    rw [ha, ha, hb, hb, edge, Nat.add_comm e.val 1]
  exact congr (congrArg Ideal.div (Finset.sum_congr rfl fun e _ => congr (congrArg _ (hn e)) (hc e)))
    (congrArg (max · 1) (Finset.sum_congr rfl fun e _ => hc e))

/-- The two points of the grid: a fact of each is a fact of both. -/
theorem two_points {p : Fin cfg1.N → Prop} (h0 : p t1_0) (h1 : p t1_1) (t : Fin cfg1.N) : p t := by
  match t with
  | ⟨0, _⟩ => exact h0
  | ⟨1, _⟩ => exact h1

/-- Where the points' window lies at each point of the grid, -/
theorem emb_0 (t : Fin cfg1.N) (y : S68x16x2x128.Idx) (a : Fin 4) :
    (((cfg1.win 0).blk t).view.emb y a).val = (![0, 16 * (6 + t.val), 0, 0] : Fin 4 → Nat) a + 1 * (y a).val := by
  revert t
  refine two_points ?_ ?_ <;> match a with | 0 => rfl | 1 => rfl | 2 => rfl | 3 => rfl

/-- and where the weights' does. -/
theorem emb_1 (t : Fin cfg1.N) (y : S67x2048.Idx) (a : Fin 2) :
    (((cfg1.win 1).blk t).view.emb y a).val = (![0, 2048 * (6 + t.val)] : Fin 2 → Nat) a + 1 * (y a).val := by
  revert t
  refine two_points ?_ ?_ <;> match a with | 0 => rfl | 1 => rfl

/-- The points' window at a point of the grid, read, -/
theorem tcX_apply (d : Dev nD) (X : Pts) (t : Fin cfg1.N) (y : S68x16x2x128.Idx) :
    tcX (fun d => (laidC X : Buf (Elt Ideal) (cvLoc d))) d t y = pt X (128 * (96 + 16 * t.val + (y 1).val) + (y 3).val) (y 0).val (y 2).val := by
  have e : tcX (fun d => (laidC X : Buf (Elt Ideal) (cvLoc d))) d t y = laidC X (((cfg1.win 0).blk t).view.emb y) := rfl
  rw [e, laidC_apply]
  have h (a : Fin 4) := emb_0 t y a
  refine congr (congr (congrArg (pt X) ?_) ?_) ?_
  · refine (congr (congrArg (fun p q => 128 * p + q) (h 1)) (h 3)).trans ?_
    show 128 * (16 * (6 + t.val) + 1 * (y 1).val) + (0 + 1 * (y 3).val) = _
    omega
  · exact (h 0).trans (by show 0 + 1 * (y 0).val = _; omega)
  · exact (h 2).trans (by show 0 + 1 * (y 2).val = _; omega)

/-- and the weights'. -/
theorem tcW_apply (d : Dev nD) (W : Wts) (t : Fin cfg1.N) (y : S67x2048.Idx) :
    tcW (fun d => (laidM W : Buf (Elt Ideal) (mvLoc d))) d t y = wt W (2048 * (6 + t.val) + (y 1).val) (y 0).val := by
  have e : tcW (fun d => (laidM W : Buf (Elt Ideal) (mvLoc d))) d t y = laidM W (((cfg1.win 1).blk t).view.emb y) := rfl
  rw [e, laidM_apply]
  have h (a : Fin 2) := emb_1 t y a
  refine congr (congrArg (wt W) ?_) ?_
  · exact (h 1).trans (by show 2048 * (6 + t.val) + 1 * (y 1).val = _; omega)
  · exact (h 0).trans (by show 0 + 1 * (y 0).val = _; omega)

/-- A lane of the first `n` blocks of a point of the grid. -/
theorem tcAcc_lane (d : Dev nD) (X : Pts) (W : Wts) (t : Fin cfg1.N) (i : S1x128.Idx) : ∀ n, n ≤ 16 →
    (tcAcc (tcX (fun d => (laidC X : Buf (Elt Ideal) (cvLoc d))) d t) (tcW (fun d => (laidM W : Buf (Elt Ideal) (mvLoc d))) d t) n i : EReal)
      = ∑ j ∈ Finset.range n, loss X W (128 * (96 + 16 * t.val + j) + (i 1).val)
  | 0, _ => zero_f32
  | n + 1, hn => by
    have hi : (i 1).val < 128 := (i 1).isLt
    rw [Finset.sum_range_succ, ← tcAcc_lane d X W t i n (by omega)]
    refine congrArg (_ + ·) (quot_lane X W _ _ _ _ i (fun k => ?_) (fun k => ?_) (fun e => ?_))
    · refine (tcX_apply d X t _).trans ?_
      refine congr (congr (congrArg (pt X) ?_) ?_) rfl
      · show 128 * (96 + 16 * t.val + n % 16) + (i 1).val % 128 = _
        omega
      · exact Nat.mod_eq_of_lt k.isLt
    · refine (tcX_apply d X t _).trans ?_
      refine congr (congr (congrArg (pt X) ?_) ?_) rfl
      · show 128 * (96 + 16 * t.val + n % 16) + (i 1).val % 128 = _
        omega
      · exact Nat.mod_eq_of_lt k.isLt
    · refine (tcW_apply d W t _).trans ?_
      refine congr (congrArg (wt W) ?_) ?_
      · show 2048 * (6 + t.val) + (128 * n + (i 1).val) % 2048 = _
        omega
      · exact Nat.mod_eq_of_lt e.isLt

/-- A lane of the result: sixteen blocks at each of the two points. -/
theorem tcOut_apply (d : Dev nD) (X : Pts) (W : Wts) (i : S1x128.Idx) :
    (tcOut (fun d => (laidC X : Buf (Elt Ideal) (cvLoc d))) (fun d => (laidM W : Buf (Elt Ideal) (mvLoc d))) d i : EReal)
      = ∑ t ∈ Finset.range 2, ∑ j ∈ Finset.range 16, loss X W (128 * (96 + 16 * t + j) + (i 1).val) := by
  have e0 := tcAcc_lane d X W t1_0 i 16 le_rfl
  have e1 := tcAcc_lane d X W t1_1 i 16 le_rfl
  rw [Finset.sum_range_succ, Finset.sum_range_succ, Finset.sum_range_zero]
  refine (congr (congrArg (fun p q : EReal => 0 + p + q) e0) e1 ▸ ?_)
  exact congrArg (fun z : EReal => z + _ + _) zero_f32

/-- All lanes: the last 4096 rows. -/
theorem tcOut_sum (d : Dev nD) (X : Pts) (W : Wts) :
    (∑ i : S1x128.Idx, (show EReal from tcOut (fun d => (laidC X : Buf (Elt Ideal) (cvLoc d))) (fun d => (laidM W : Buf (Elt Ideal) (mvLoc d))) d i))
      = ∑ b ∈ Finset.range 4096, loss X W (12288 + b) := by
  rw [ValueIdx.sum_idx2, ← sum_tc, Finset.sum_range, Fin.sum_univ_one]
  exact Finset.sum_congr rfl fun l _ => tcOut_apply d X W _

end Cert.Proof.Wing

end
-- ==== Proof.RefSum.lean ====
/-
  The reference over the extended reals. It takes the points of a row by two lists of 67 numbers (0, 1, … and 1, 2, …),
  with a test that each number names a point; every number does, so what it takes are an edge's two ends, and the rest is
  the losses' sum divided by their number.
-/
module

public import proofs.«01_k».proof.Proof.Loss
public import proofs.«01_k».proof.Proof.Gen.ReferenceIdeal

@[expose] public section

set_option maxRecDepth 16384

noncomputable section

namespace Cert.Proof.Wing

open Cert.ReferenceIdeal Cert.ReferenceIdeal.Gen
open Idealize.ShloMosaic

/-- A list of 67 numbers as the reference holds it, a negative one counted from the end, as a column. -/
def column (L : Fin 67 → BitVec 32) : IVec S67x1 32 :=
  broadcastInDim S67x1 ![0] bcast_S67_S67x1_0 (select (cmpi .slt (fun i => L (S67.rowMajor i)) (broadcastInDim S67 ![] bcast_S_S67 (constantI S_ 32 0#32))) (addi (fun i => L (S67.rowMajor i)) (broadcastInDim S67 ![] bcast_S_S67 (constantI S_ 32 68#32))) (fun i => L (S67.rowMajor i)))

/-- Whether each number names a point. -/
def named (L : Fin 67 → BitVec 32) : IVec S67 1 :=
  Host.reduce IntOp.andi (andi (cmpi .sge (column L) (broadcastInDim S67x1 ![] bcast_S_S67x1 (constantI S_ 32 0#32))) (cmpi .sle (column L) (broadcastInDim S67x1 ![0, 1] bcast_S1x1_S67x1_0_1 (broadcastInDim S1x1 ![1] bcast_S1_S1x1_1 (constantI S1 32 67#32))))) (constantI S_ 1 1#1) reducesTo_S67x1_S67_d1 h_S_

/-- The points the list names, of every row. -/
def taken (L : Fin 67 → BitVec 32) (X : Pts) : Vec Ideal S16384x67x2 .f32 :=
  select (broadcastInDim S16384x67x2 ![1] bcast_S67_S16384x67x2_1 (named L)) (Host.gather gather_S16384x68x2_S67x1_S16384x67x2_02_1_n_n_1_1_1638412 X (column L)) (broadcastInDim S16384x67x2 ![] bcast_S_S16384x67x2 (constant (F := Ideal) S_ .f32 0x7FC00000#32))

theorem lit0_eq (k : Fin 67) : lit0 k = BitVec.ofNat 32 (k.val + 0) := by
  revert k; decide
theorem lit1_eq (k : Fin 67) : lit1 k = BitVec.ofNat 32 (k.val + 1) := by
  revert k; decide

section
variable {L : Fin 67 → BitVec 32} {o : Nat} (hL : ∀ k, L k = BitVec.ofNat 32 (k.val + o)) (ho : o ≤ 1)
include hL ho

/-- The column holds the list itself, -/
theorem column_apply (i : S67x1.Idx) : column L i = BitVec.ofNat 32 ((i 0).val + o) := by
  have h0 : (i 0).val < 67 := (i 0).isLt
  have e (k : Fin 67) : L (S67.rowMajor (ValueIdx.ix1 k)) = BitVec.ofNat 32 (k.val + o) := by
    exact (hL _).trans (congrArg (fun n => BitVec.ofNat 32 (n + o)) (rowMajor_val1 (d := ![67]) (ValueIdx.ix1 k)))
  have q : ∀ n < 68, Scalar.select (IntOp.cmpi CmpIPredicate.slt (BitVec.ofNat 32 n) 0#32) (IntOp.addi (BitVec.ofNat 32 n) 68#32)
      (BitVec.ofNat 32 n) = BitVec.ofNat 32 n := by decide
  pointwise [column]
  refine Eq.trans ?_ (q ((i 0).val + o) (by omega))
  rw [← e (i 0)]
  rfl

/-- each number names a point, -/
theorem named_apply (i : S67.Idx) : named L i = 1#1 := by
  have h0 : (i 0).val < 67 := (i 0).isLt
  pointwise [named]
  simp only [column_apply hL ho]
  have e : ∀ n < 68, IntOp.andi (IntOp.cmpi CmpIPredicate.sge (BitVec.ofNat 32 n) 0#32) (IntOp.cmpi CmpIPredicate.sle (BitVec.ofNat 32 n) 67#32) = 1#1 := by
    decide
  rw [Finset.univ_unique, Finset.fold_singleton]
  rw [e _ (by show (i 0).val + o < 68; omega)]
  rfl

/-- and the points it names are read. -/
theorem gather_apply (X : Pts) (i : S16384x67x2.Idx) :
    Host.gather gather_S16384x68x2_S67x1_S16384x67x2_02_1_n_n_1_1_1638412 X (column L) i = pt X (i 0).val ((i 1).val + o) (i 2).val := by
  have h0 : (i 0).val < 16384 := (i 0).isLt
  have h1 : (i 1).val < 67 := (i 1).isLt
  have h2 : (i 2).val < 2 := (i 2).isLt
  unfold Host.gather pt
  refine congrArg X (funext fun a => Fin.ext ?_)
  match a with
  | 0 => show 0 + 0 + (i 0).val = (i 0).val % 16384; omega
  | 1 =>
    have q (j : S67x1.Idx) (hj : (j 0).val = (i 1).val) : (column L j).toInt.toNat = (i 1).val + o := by
      rw [column_apply hL ho, hj]
      have z : ∀ n < 68, (BitVec.ofNat 32 n).toInt.toNat = n := by decide
      exact z _ (by omega)
    show min (column L (GatherDims.siIdx gather_S16384x68x2_S67x1_S16384x67x2_02_1_n_n_1_1_1638412 i ⟨0, by decide⟩)).toInt.toNat 67 + 0 + 0 = ((i 1).val + o) % 68
    rw [q _ rfl]
    omega
  | 2 => show 0 + 0 + (i 2).val = (i 2).val % 2; omega

/-- So what is taken by the list is the point it names. -/
theorem taken_apply (X : Pts) (i : S16384x67x2.Idx) : taken L X i = pt X (i 0).val ((i 1).val + o) (i 2).val := by
  have e (j : S67.Idx) : named L j = 1#1 := named_apply hL ho j
  unfold taken
  pointwise
  rw [e, ← gather_apply hL ho]
  rfl

end

/-- The reference's result. -/
def refOut (X : Pts) (W : Wts) : FVec Ideal S_ .f32 :=
  mulf (constant S_ .f32 0x3D4CCCCD#32) (Host.divf (Host.reduceAdd (Host.divf (Host.reduceAdd (mulf (Host.reduceAdd (Host.absf (subf (taken lit0 X) (taken lit1 X))) (constant S_ .f32 0x00000000#32) reducesTo_S16384x67x2_S16384x67_d2 h_S_) W) (constant S_ .f32 0x00000000#32) reducesTo_S16384x67_S16384_d1 h_S_) (maximumf (broadcastInDim S16384 ![] bcast_S_S16384 (id (constant S_ .f32 0x3F800000#32))) (Host.reduceAdd W (constant S_ .f32 0x00000000#32) reducesTo_S16384x67_S16384_d1 h_S_))) (constant S_ .f32 0x00000000#32) reducesTo_S16384_S_d0 h_S_) (constant S_ .f32 0x46800000#32))

theorem refOut_apply (X : Pts) (W : Wts) (i : S_.Idx) :
    (refOut X W i : EReal) = Ideal.ofBits .f32 0x3D4CCCCD#32 * Ideal.div (total X W) (Ideal.ofBits .f32 0x46800000#32) := by
  pointwise [refOut]
  refine congrArg (fun z => Ideal.ofBits .f32 0x3D4CCCCD#32 * Ideal.div z (Ideal.ofBits .f32 0x46800000#32)) ?_
  unfold total
  rw [Finset.sum_range]
  refine Finset.sum_congr rfl fun b _ => ?_
  have hw (e : Fin 67) : W (ValueIdx.ix2 b e) = wt W b.val e.val := by
    refine congrArg W (funext fun a => Fin.ext ?_)
    match a with
    | 0 => exact (Nat.mod_eq_of_lt b.isLt).symm
    | 1 => exact (Nat.mod_eq_of_lt e.isLt).symm
  have hg (e : Fin 67) (c : Fin 2) : gap (taken lit0 X (ValueIdx.ix3 b e c)) (taken lit1 X (ValueIdx.ix3 b e c))
      = gap (pt X b.val e.val c.val) (pt X b.val (e.val + 1) c.val) := by
    rw [taken_apply lit0_eq (by omega), taken_apply lit1_eq le_rfl]
    rfl
  have he (e : Fin 67) : (∑ c : Fin 2, gap (taken lit0 X (ValueIdx.ix3 b e c)) (taken lit1 X (ValueIdx.ix3 b e c))) = edge X b.val e.val := by
    rw [Fin.sum_univ_two, hg, hg]
    rfl
  unfold loss top bot
  rw [Finset.sum_range, Finset.sum_range, max_comm]
  refine congr (congrArg Ideal.div (Finset.sum_congr rfl fun e _ => ?_)) (congr (congrArg max (Finset.sum_congr rfl fun e _ => hw e)) Ideal.ofBits_one_f32)
  exact congr (congrArg HMul.hMul (he e)) (hw e)

/-- The three constants the two programs scale by: what the reference multiplies by, -/
theorem scale_ref : Ideal.ofBits .f32 0x3D4CCCCD#32 = ((13421773 / 2 ^ 28 : ℝ) : EReal) := by
  simp [Ideal.ofBits, Ideal.ieee, -EReal.coe_mul]; norm_num
/-- the number of rows it divides by, -/
theorem rows_ref : Ideal.ofBits .f32 0x46800000#32 = ((16384 : ℝ) : EReal) := by
  simp [Ideal.ofBits, Ideal.ieee, -EReal.coe_mul]; norm_num
/-- and what the kernel multiplies by. -/
theorem scale_ker : Ideal.ofBits .f32 0x364CCCCD#32 = ((13421773 / 2 ^ 42 : ℝ) : EReal) := by
  simp [Ideal.ofBits, Ideal.ieee, -EReal.coe_mul]; norm_num

/-- The kernel's constant is the reference's over the number of rows, exactly. -/
theorem scale (T : EReal) : Ideal.ofBits .f32 0x3D4CCCCD#32 * Ideal.div T (Ideal.ofBits .f32 0x46800000#32) = Ideal.ofBits .f32 0x364CCCCD#32 * T := by
  rw [rows_ref, Ideal.div_coe (by norm_num), scale_ref, scale_ker, mul_comm T, ← mul_assoc, ← EReal.coe_mul]
  norm_num

end Cert.Proof.Wing

end
-- ==== Proof.Value.lean ====
/-
  The value: the two calls' lanes are all rows' losses, so the kernel's result is their sum times a constant, which is the
  reference's constant over the number of rows.
-/
module

public import proofs.«01_k».proof.Defs
public import proofs.«01_k».proof.Proof.Main
public import proofs.«01_k».proof.Proof.TcSum
public import proofs.«01_k».proof.Proof.RefSum
public import proofs.«01_k».proof.Proof.Gen.ReferenceIdeal.Run

@[expose] public section

set_option maxRecDepth 16384

noncomputable section

namespace Cert.Proof.Wing

open Cert.KernelIdeal Cert.KernelIdeal.Gen
open Idealize.ShloMosaic Idealize.ShloMosaic.TcCoe Idealize.SL.Sem

/-- The host's last operations: the two results' lanes summed, added and scaled. -/
theorem scaled_sums (A : FVec Ideal S32x16 .f32) (B : FVec Ideal S1x128 .f32) (i : S_.Idx) :
    (mulf (constant (F := Ideal) S_ .f32 0x364CCCCD#32)
      (addf (Host.reduceAdd A (constant (F := Ideal) S_ .f32 0x00000000#32) reducesTo_S32x16_S_d0_1 h_S_)
        (Host.reduceAdd B (constant (F := Ideal) S_ .f32 0x00000000#32) reducesTo_S1x128_S_d0_1 h_S_)) i : EReal)
      = Ideal.ofBits .f32 0x364CCCCD#32 * ((∑ x, (show EReal from A x)) + ∑ y, (show EReal from B y)) := by
  rw [ValueIdx.sum_idx2, ValueIdx.sum_idx2]
  pointwise
  rfl

variable (m : (ℓ : Loc nD τ sig) → Buf (Elt Ideal) ℓ)

/-- The two arguments as arrays. -/
abbrev ptsM (d : Dev nD) : Pts := m (d, Proc.devRef .tc main_arg0)
abbrev wtsM (d : Dev nD) : Wts := m (d, Proc.devRef .tc main_arg1)

/-- The kernel's result is the reference's of the same arguments. -/
theorem result_eq (d : Dev nD) : V3 m d (Proc.devRef .tc main_v8) = refOut (ptsM m d) (wtsM m d) := by
  rw [V3_v8]
  funext i
  refine (scaled_sums _ _ i).trans ?_
  have hc : cvM m = fun e => (laidC (ptsM m d) : Buf (Elt Ideal) (cvLoc e)) := funext fun e => by
    obtain rfl : e = d := Subsingleton.elim _ _
    exact cvM_eq m e
  have hm : mvM m = fun e => (laidM (wtsM m d) : Buf (Elt Ideal) (mvLoc e)) := funext fun e => by
    obtain rfl : e = d := Subsingleton.elim _ _
    exact mvM_eq m e
  rw [refOut_apply, scale, total_split, ← scOut_sum d (ptsM m d) (wtsM m d), ← tcOut_sum d (ptsM m d) (wtsM m d), hc, hm]

/-- `Cert.algebraic_KernelIdeal_ReferenceIdeal`: from equal arguments the two programs end with one result. -/
theorem value : Cert.algebraic_KernelIdeal_ReferenceIdeal := by
  intro m g m' g' _ h
  refine ⟨fun c => V3 m c (Proc.devRef .tc main_v8), ?_, ?_⟩
  · exact (θ_run Cert.KernelIdeal.defs _ _).mono (fun _ q c => ⟨(q.1 c).2.2, (q.1 c).1, (q.1 c).2.1⟩) (run_main (F := Ideal) m g)
  · refine (θ_run Cert.ReferenceIdeal.defs _ _).mono (fun r q c => ⟨(q c).1.trans ?_, (q c).2⟩) (Cert.ReferenceIdeal.Value.run (F := Ideal) m' g')
    exact (congr (congrArg refOut (h c).1) (h c).2).trans (result_eq m c).symm

end Cert.Proof.Wing

end
-- ==== Proof.lean ====
/-
  The proof of `Cert.Claim`: the three programs run to their ends with their arguments unchanged and every semaphore at
  zero, the ideal kernel is the kernel, and over the extended reals the kernel's result is the reference's. The frames are
  in Proof/Frames.lean, the value in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of the three programs, the idealization, and the kernel's result against the reference's. -/
theorem claim : Cert.Claim := ⟨Cert.Kernel.Gen.facts, Cert.KernelIdeal.Gen.facts, Cert.ReferenceIdeal.Gen.facts,
  Wing.frame_Kernel, Wing.frame_KernelIdeal, Wing.frame_ReferenceIdeal, trivial, Wing.value⟩

end Cert.Proof

end
